-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 2, 2] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![512]⟩ ⟨1, ![1024]⟩ (Layout.meshBlock [2, 2, 2] ![[0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![2, 512, 1024]⟩ ⟨3, ![4, 512, 1024]⟩ (Layout.meshBlock [2, 2, 2] ![[0], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![2, 1024, 512]⟩ ⟨3, ![4, 1024, 512]⟩ (Layout.meshBlock [2, 2, 2] ![[0], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨2, ![512, 512]⟩ ⟨2, ![1024, 512]⟩ (Layout.meshBlock [2, 2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v57) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S512 : Shape := ⟨1, ![512]⟩
abbrev S2x512x1024 : Shape := ⟨3, ![2, 512, 1024]⟩
abbrev S2x1024x512 : Shape := ⟨3, ![2, 1024, 512]⟩
abbrev S512x1 : Shape := ⟨2, ![512, 1]⟩
abbrev S4 : Shape := ⟨1, ![4]⟩
abbrev S_ : Shape := ⟨0, ![]⟩
abbrev S1 : Shape := ⟨1, ![1]⟩
abbrev S1x512x1024 : Shape := ⟨3, ![1, 512, 1024]⟩
abbrev S512x1024 : Shape := ⟨2, ![512, 1024]⟩
abbrev S1x1024x512 : Shape := ⟨3, ![1, 1024, 512]⟩
abbrev S1024x512 : Shape := ⟨2, ![1024, 512]⟩
abbrev S256x512 : Shape := ⟨2, ![256, 512]⟩
abbrev S256x1 : Shape := ⟨2, ![256, 1]⟩
abbrev S256x1024 : Shape := ⟨2, ![256, 1024]⟩

abbrev nBuf : Space → Nat
  | .hbm => 6
  | .vmem => 13
  | .smem => 0
  | _ => 0

abbrev bufTy : (tb : Table) → Fin (tcTables nBuf tb) → BufTy
  | .hbm, ⟨0, _⟩ => ⟨S512x512, .bf16⟩
  | .hbm, ⟨1, _⟩ => ⟨S512, .i32⟩
  | .hbm, ⟨2, _⟩ => ⟨S2x512x1024, .bf16⟩
  | .hbm, ⟨3, _⟩ => ⟨S2x1024x512, .bf16⟩
  | .hbm, ⟨4, _⟩ => ⟨S512x1, .i32⟩
  | .hbm, ⟨5, _⟩ => ⟨S512x512, .f32⟩
  | .local _ .vmem, ⟨0, _⟩ => ⟨S512x512, .bf16⟩
  | .local _ .vmem, ⟨1, _⟩ => ⟨S512x1, .i32⟩
  | .local _ .vmem, ⟨2, _⟩ => ⟨S2x512x1024, .bf16⟩
  | .local _ .vmem, ⟨3, _⟩ => ⟨S2x1024x512, .bf16⟩
  | .local _ .vmem, ⟨4, _⟩ => ⟨S512x512, .f32⟩
  | .local _ .vmem, ⟨5, _⟩ => ⟨S512x512, .bf16⟩
  | .local _ .vmem, ⟨6, _⟩ => ⟨S512x512, .bf16⟩
  | .local _ .vmem, ⟨7, _⟩ => ⟨S512x1, .i32⟩
  | .local _ .vmem, ⟨8, _⟩ => ⟨S512x1, .i32⟩
  | .local _ .vmem, ⟨9, _⟩ => ⟨S512x512, .bf16⟩
  | .local _ .vmem, ⟨10, _⟩ => ⟨S512x512, .bf16⟩
  | .local _ .vmem, ⟨11, _⟩ => ⟨S2x512x1024, .bf16⟩
  | .local _ .vmem, ⟨12, _⟩ => ⟨S2x1024x512, .bf16⟩
  | _, _ => ⟨S512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 1 13 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_scratch7 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_5 : BitVec 32 := 4#32
  let v11 : BitVec 32 := Scalar.muli v9 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v15 : BitVec 32 := Scalar.muli v8 c1_i32_7
  let v16 : BitVec 32 := Scalar.addi v14 v15
  v16.toNat
def k0_dev2 (d0 : Dev nD) : Nat :=
  let c0_i32_19 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_18 : BitVec 32 := 4#32
  let v27 : BitVec 32 := Scalar.muli v9 c4_i32_18
  let v28 : BitVec 32 := Scalar.addi c0_i32_19 v27
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_20 : BitVec 32 := 2#32
  let v29 : BitVec 32 := Scalar.muli v5 c2_i32_20
  let v30 : BitVec 32 := Scalar.addi v28 v29
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_21 : BitVec 32 := 1#32
  let v31 : BitVec 32 := Scalar.muli v8 c1_i32_21
  let v32 : BitVec 32 := Scalar.addi v30 v31
  v32.toNat
def k0_dev3 (d0 : Dev nD) : Nat :=
  let c0_i32_25 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_24 : BitVec 32 := 4#32
  let v37 : BitVec 32 := Scalar.muli v9 c4_i32_24
  let v38 : BitVec 32 := Scalar.addi c0_i32_25 v37
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_26 : BitVec 32 := 2#32
  let v39 : BitVec 32 := Scalar.muli v5 c2_i32_26
  let v40 : BitVec 32 := Scalar.addi v38 v39
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_27 : BitVec 32 := 1#32
  let v41 : BitVec 32 := Scalar.muli v8 c1_i32_27
  let v42 : BitVec 32 := Scalar.addi v40 v41
  v42.toNat
def k0_dev4 (d0 : Dev nD) : Nat :=
  let c0_i32_104 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_103 : BitVec 32 := 4#32
  let v140 : BitVec 32 := Scalar.muli v9 c4_i32_103
  let v141 : BitVec 32 := Scalar.addi c0_i32_104 v140
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_105 : BitVec 32 := 2#32
  let v142 : BitVec 32 := Scalar.muli v5 c2_i32_105
  let v143 : BitVec 32 := Scalar.addi v141 v142
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_106 : BitVec 32 := 1#32
  let v144 : BitVec 32 := Scalar.muli v8 c1_i32_106
  let v145 : BitVec 32 := Scalar.addi v143 v144
  v145.toNat
def k0_dev5 (d0 : Dev nD) : Nat :=
  let c0_i32_140 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_139 : BitVec 32 := 4#32
  let v193 : BitVec 32 := Scalar.muli v9 c4_i32_139
  let v194 : BitVec 32 := Scalar.addi c0_i32_140 v193
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_141 : BitVec 32 := 2#32
  let v195 : BitVec 32 := Scalar.muli v5 c2_i32_141
  let v196 : BitVec 32 := Scalar.addi v194 v195
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_142 : BitVec 32 := 1#32
  let v197 : BitVec 32 := Scalar.muli v8 c1_i32_142
  let v198 : BitVec 32 := Scalar.addi v196 v197
  v198.toNat
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1024x512 : Shape := ⟨2, ![1024, 512]⟩
abbrev S1024 : Shape := ⟨1, ![1024]⟩
abbrev S4x512x1024 : Shape := ⟨3, ![4, 512, 1024]⟩
abbrev S4x1024x512 : Shape := ⟨3, ![4, 1024, 512]⟩
abbrev S_ : Shape := ⟨0, ![]⟩
abbrev S1x512x1024 : Shape := ⟨3, ![1, 512, 1024]⟩
abbrev S512x1024 : Shape := ⟨2, ![512, 1024]⟩
abbrev S1024x1024 : Shape := ⟨2, ![1024, 1024]⟩
abbrev S1024x1 : Shape := ⟨2, ![1024, 1]⟩
abbrev S1x1024x512 : Shape := ⟨3, ![1, 1024, 512]⟩

abbrev nBuf : Space → Nat
  | .hbm => 75
  | .vmem => 0
  | .smem => 0
  | _ => 0

abbrev bufTy : (tb : Table) → Fin (tcTables nBuf tb) → BufTy
  | .hbm, ⟨0, _⟩ => ⟨S1024x512, .bf16⟩
  | .hbm, ⟨1, _⟩ => ⟨S1024, .i32⟩
  | .hbm, ⟨2, _⟩ => ⟨S4x512x1024, .bf16⟩
  | .hbm, ⟨3, _⟩ => ⟨S4x1024x512, .bf16⟩
  | .hbm, ⟨4, _⟩ => ⟨S1024x512, .f32⟩
  | .hbm, ⟨5, _⟩ => ⟨S_, .f32⟩
  | .hbm, ⟨6, _⟩ => ⟨S1024x512, .f32⟩
  | .hbm, ⟨7, _⟩ => ⟨S1x512x1024, .bf16⟩
  | .hbm, ⟨8, _⟩ => ⟨S512x1024, .bf16⟩
  | .hbm, ⟨9, _⟩ => ⟨S512x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S_, .i32⟩
  | .hbm, ⟨15, _⟩ => ⟨S1024, .i32⟩
  | .hbm, ⟨16, _⟩ => ⟨S1024, .i1⟩
  | .hbm, ⟨17, _⟩ => ⟨S1024x1, .i1⟩
  | .hbm, ⟨18, _⟩ => ⟨S1x1024x512, .bf16⟩
  | .hbm, ⟨19, _⟩ => ⟨S1024x512, .bf16⟩
  | .hbm, ⟨20, _⟩ => ⟨S1024x512, .f32⟩
  | .hbm, ⟨21, _⟩ => ⟨S1024x512, .f32⟩
  | .hbm, ⟨22, _⟩ => ⟨S1024x512, .i1⟩
  | .hbm, ⟨23, _⟩ => ⟨S1024x512, .f32⟩
  | .hbm, ⟨24, _⟩ => ⟨S1x512x1024, .bf16⟩
  | .hbm, ⟨25, _⟩ => ⟨S512x1024, .bf16⟩
  | .hbm, ⟨26, _⟩ => ⟨S512x1024, .f32⟩
  | .hbm, ⟨27, _⟩ => ⟨S1024x1024, .f32⟩
  | .hbm, ⟨28, _⟩ => ⟨S_, .f32⟩
  | .hbm, ⟨29, _⟩ => ⟨S1024x1024, .f32⟩
  | .hbm, ⟨30, _⟩ => ⟨S1024x1024, .f32⟩
  | .hbm, ⟨31, _⟩ => ⟨S_, .i32⟩
  | .hbm, ⟨32, _⟩ => ⟨S1024, .i32⟩
  | .hbm, ⟨33, _⟩ => ⟨S1024, .i1⟩
  | .hbm, ⟨34, _⟩ => ⟨S1024x1, .i1⟩
  | .hbm, ⟨35, _⟩ => ⟨S1x1024x512, .bf16⟩
  | .hbm, ⟨36, _⟩ => ⟨S1024x512, .bf16⟩
  | .hbm, ⟨37, _⟩ => ⟨S1024x512, .f32⟩
  | .hbm, ⟨38, _⟩ => ⟨S1024x512, .f32⟩
  | .hbm, ⟨39, _⟩ => ⟨S1024x512, .i1⟩
  | .hbm, ⟨40, _⟩ => ⟨S1024x512, .f32⟩
  | .hbm, ⟨41, _⟩ => ⟨S1x512x1024, .bf16⟩
  | .hbm, ⟨42, _⟩ => ⟨S512x1024, .bf16⟩
  | .hbm, ⟨43, _⟩ => ⟨S512x1024, .f32⟩
  | .hbm, ⟨44, _⟩ => ⟨S1024x1024, .f32⟩
  | .hbm, ⟨45, _⟩ => ⟨S_, .f32⟩
  | .hbm, ⟨46, _⟩ => ⟨S1024x1024, .f32⟩
  | .hbm, ⟨47, _⟩ => ⟨S1024x1024, .f32⟩
  | .hbm, ⟨48, _⟩ => ⟨S_, .i32⟩
  | .hbm, ⟨49, _⟩ => ⟨S1024, .i32⟩
  | .hbm, ⟨50, _⟩ => ⟨S1024, .i1⟩
  | .hbm, ⟨51, _⟩ => ⟨S1024x1, .i1⟩
  | .hbm, ⟨52, _⟩ => ⟨S1x1024x512, .bf16⟩
  | .hbm, ⟨53, _⟩ => ⟨S1024x512, .bf16⟩
  | .hbm, ⟨54, _⟩ => ⟨S1024x512, .f32⟩
  | .hbm, ⟨55, _⟩ => ⟨S1024x512, .f32⟩
  | .hbm, ⟨56, _⟩ => ⟨S1024x512, .i1⟩
  | .hbm, ⟨57, _⟩ => ⟨S1024x512, .f32⟩
  | .hbm, ⟨58, _⟩ => ⟨S1x512x1024, .bf16⟩
  | .hbm, ⟨59, _⟩ => ⟨S512x1024, .bf16⟩
  | .hbm, ⟨60, _⟩ => ⟨S512x1024, .f32⟩
  | .hbm, ⟨61, _⟩ => ⟨S1024x1024, .f32⟩
  | .hbm, ⟨62, _⟩ => ⟨S_, .f32⟩
  | .hbm, ⟨63, _⟩ => ⟨S1024x1024, .f32⟩
  | .hbm, ⟨64, _⟩ => ⟨S1024x1024, .f32⟩
  | .hbm, ⟨65, _⟩ => ⟨S_, .i32⟩
  | .hbm, ⟨66, _⟩ => ⟨S1024, .i32⟩
  | .hbm, ⟨67, _⟩ => ⟨S1024, .i1⟩
  | .hbm, ⟨68, _⟩ => ⟨S1024x1, .i1⟩
  | .hbm, ⟨69, _⟩ => ⟨S1x1024x512, .bf16⟩
  | .hbm, ⟨70, _⟩ => ⟨S1024x512, .bf16⟩
  | .hbm, ⟨71, _⟩ => ⟨S1024x512, .f32⟩
  | .hbm, ⟨72, _⟩ => ⟨S1024x512, .f32⟩
  | .hbm, ⟨73, _⟩ => ⟨S1024x512, .i1⟩
  | .hbm, ⟨74, _⟩ => ⟨S1024x512, .f32⟩
  | _, _ => ⟨S1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call1_v0 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_c_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_call2_v0 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_5 : Ref sig .tc := ⟨.hbm, 62, rfl⟩
abbrev main_v48 : Ref sig .tc := ⟨.hbm, 63, rfl⟩
abbrev main_v49 : Ref sig .tc := ⟨.hbm, 64, rfl⟩
abbrev main_c_6 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_call3_v0 : Ref sig .tc := ⟨.hbm, 73, rfl⟩
abbrev main_v57 : Ref sig .tc := ⟨.hbm, 74, rfl⟩

abbrev nD : Nat := 1
abbrev τ : Topo := Topo.v7x

variable {F : FTy → Type} [FloatOps F]
-- ==== Proof.Contents.lean ====
/-
# What the buffers of one device hold

The kernel works on a mesh of 2 × 2 × 2 devices. A device and its partner differ in the first mesh axis only; each sends
the other its rows of `x` and their expert numbers, works out what its own two experts give for the partner's rows, and
sends that back. This module names, as functions of the launch memory, what each buffer of a device holds once the
kernel has written it: the blocks the device reads, the partial results for its own rows, the half blocks it sends back,
and the final result. The names are for any float values `F`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

noncomputable section

namespace Cert.Moe

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

/-! ## The partner -/

/-- The device that differs from `c` in the first mesh axis: four places on, round the eight. -/
def peer (c : Dev nD) : Dev nD := ⟨(c.val + 4) % 8, Nat.mod_lt _ (by decide)⟩

/-- The partner's partner is the device itself. -/
theorem peer_peer (c : Dev nD) : peer (peer c) = c := by revert c; decide

/-- Going to the partner is a permutation of the devices. -/
def peers : Dev nD ≃ Dev nD := ⟨peer, peer, peer_peer, peer_peer⟩

/-- A device number the kernel computes, once known to be the partner's, is the partner. -/
theorem dev_eq_peer {c : Dev nD} {n : Nat} (h : n < nD)
    (e : n = (2 * ((c.val / 2) % 2) + (c.val % 2) + 4) - 4 * (c.val / 4)) : (⟨n, h⟩ : Dev nD) = peer c := by
  subst e; revert c; decide

/-! ## Parts of the buffers -/

/-- First row of the upper (`0`) or lower (`1`) half of a 512-row buffer. -/
def halfOff : Fin 2 → Fin 2 → Nat := fun | 0 => ![0, 0] | 1 => ![256, 0]

theorem halfOff_fits (h : Fin 2) : ∀ a, halfOff h a + S256x512.size a ≤ S512x512.size a := by
  revert h; decide

theorem halfOff_fits_ids (h : Fin 2) : ∀ a, halfOff h a + S256x1.size a ≤ S512x1.size a := by
  revert h; decide

/-- The rows of half `h` of a 512 × 512 buffer. -/
abbrev rows (h : Fin 2) : Rect S512x512 := Rect.unit (s := S512x512) (halfOff h) S256x512.size (halfOff_fits h)

/-- The rows of half `h` of a column of 512 expert numbers. -/
abbrev idRows (h : Fin 2) : Rect S512x1 := Rect.unit (s := S512x1) (halfOff h) S256x1.size (halfOff_fits_ids h)

/-- The slab of one of the two experts in a stack of two. -/
def slabOff : Fin 2 → Fin 3 → Nat := fun | 0 => ![0, 0, 0] | 1 => ![1, 0, 0]

theorem slabOff_fits₁ (e : Fin 2) : ∀ a, slabOff e a + S1x512x1024.size a ≤ S2x512x1024.size a := by
  revert e; decide

theorem slabOff_fits₂ (e : Fin 2) : ∀ a, slabOff e a + S1x1024x512.size a ≤ S2x1024x512.size a := by
  revert e; decide

abbrev slab₁ (e : Fin 2) : Rect S2x512x1024 := Rect.unit (s := S2x512x1024) (slabOff e) S1x512x1024.size (slabOff_fits₁ e)
abbrev slab₂ (e : Fin 2) : Rect S2x1024x512 := Rect.unit (s := S2x1024x512) (slabOff e) S1x1024x512.size (slabOff_fits₂ e)

/-- What a load of the rectangle `r` finds in a whole buffer that holds `f`. -/
abbrev part {s : Shape} {α : Type} (r : Rect s) (f : s.Idx → α) : r.shape.Idx → α := fun j => f (r.emb j)

/-! ## What the device reads -/

/-- The device's rows of `x`. -/
def xIn (c : Dev nD) : Vec F S512x512 .bf16 := iblk m c 0 t0_0
/-- The expert numbers of its rows. -/
def idIn (c : Dev nD) : Vec F S512x1 .i32 := iblk m c 1 t0_0
/-- The first matrices of its two experts. -/
def w₁In (c : Dev nD) : Vec F S2x512x1024 .bf16 := iblk m c 2 t0_0
/-- The second matrices of its two experts. -/
def w₂In (c : Dev nD) : Vec F S2x1024x512 .bf16 := iblk m c 3 t0_0

/-- The device's place along the first mesh axis, as the kernel computes it. -/
def place (c : Dev nD) : BitVec 32 := Scalar.remsi (Scalar.divsi (Dev.word c) 4#32) 2#32

/-! ## What it keeps and sends -/

/-- The copies of the blocks of rows and expert numbers it sends to its partner. -/
def xOut (c : Dev nD) : Vec F S512x512 .bf16 := k0_pay2 (xIn m c)
def idOut (c : Dev nD) : Vec F S512x1 .i32 := k0_pay3 (F := F) (idIn m c)

/-- Its two matrices of expert `e`. -/
def w₁ (c : Dev nD) (e : Fin 2) : Vec F S1x512x1024 .bf16 := part (slab₁ e) (k0_pay4 (w₁In m c))
def w₂ (c : Dev nD) (e : Fin 2) : Vec F S1x1024x512 .bf16 := part (slab₂ e) (k0_pay5 (w₂In m c))

/-- Its own rows through its first expert. -/
def ownFirst (c : Dev nD) : Vec F S512x512 .f32 :=
  k0_pay8 (place c) (k0_pay6 (xIn m c)) (k0_pay7 (F := F) (idIn m c)) (w₁ m c 0) (w₂ m c 0)

/-- Its own rows through both its experts. -/
def ownBoth (c : Dev nD) : Vec F S512x512 .f32 :=
  k0_pay14 (place c) (k0_pay6 (xIn m c)) (ownFirst m c) (idIn m c) (w₁ m c 1) (w₂ m c 1)

/-- Half `h` of the partner's rows and of their expert numbers. -/
def xGot (c : Dev nD) (h : Fin 2) : Vec F S256x512 .bf16 := part (rows h) (xOut m (peer c))
def idGot (c : Dev nD) (h : Fin 2) : Vec F S256x1 .i32 := part (idRows h) (idOut m (peer c))

/-- The first half of the partner's rows through both the device's experts. -/
def sentUpper (c : Dev nD) : Vec F S256x512 .bf16 :=
  k0_pay11 (xGot m c 0) (k0_pay9 (place c) (xGot m c 0) (idGot m c 0) (w₁ m c 0) (w₂ m c 0))
    (k0_pay10 (place c) (idGot m c 0)) (w₁ m c 1) (w₂ m c 1)

/-- The second half. -/
def sentLower (c : Dev nD) : Vec F S256x512 .bf16 :=
  k0_pay13 (place c) (xGot m c 1) (idGot m c 1) (k0_pay12 (F := F) (place c) (idGot m c 1)) (w₁ m c 0) (w₂ m c 0)
    (w₁ m c 1) (w₂ m c 1)

/-- What it sends back for half `h` of the partner's rows. -/
def sent (c : Dev nD) : Fin 2 → Vec F S256x512 .bf16 := fun | 0 => sentUpper m c | 1 => sentLower m c

/-- The halves of a 512-row buffer share no row, -/
theorem rows_disjoint (h h' : Fin 2) (ne : h ≠ h') : Disjoint (rows h).set (rows h').set := by
  refine Rect.unit_disjoint (a := (0 : Fin 2)) ?_
  revert ne; revert h h'; decide

/-- and together are all of it. -/
theorem rows_cover : (Finset.univ : Finset (Fin 2)).biUnion (fun h => (rows h).set) = Finset.univ := by
  refine Finset.eq_univ_iff_forall.mpr fun i => Finset.mem_biUnion.mpr ?_
  have h₀ : (i 0).val < 512 := (i 0).isLt
  have h₁ : (i 1).val < 512 := (i 1).isLt
  refine ⟨if (i 0).val < 256 then 0 else 1, Finset.mem_univ _, Rect.mem_set_unit.mpr ?_⟩
  by_cases hlt : (i 0).val < 256
  · rw [if_pos hlt]
    exact Fin.forall_fin_two.mpr ⟨⟨Nat.zero_le _, show (i 0).val < 0 + 256 by omega⟩, ⟨Nat.zero_le _, show (i 1).val < 0 + 512 by omega⟩⟩
  · rw [if_neg hlt]
    exact Fin.forall_fin_two.mpr ⟨⟨show 256 ≤ (i 0).val by omega, show (i 0).val < 256 + 256 by omega⟩, ⟨Nat.zero_le _, show (i 1).val < 0 + 512 by omega⟩⟩

/-- What it holds of its partner's answer once both halves have come. -/
def answer (c : Dev nD) : Vec F S512x512 .bf16 := Rect.glue rows rows_cover (fun h => sent m (peer c) h)

/-- Half `h` of the answer is what the partner sent for that half. -/
theorem part_answer (c : Dev nD) (h : Fin 2) : part (rows h) (answer m c) = sent m (peer c) h :=
  funext fun j => Rect.glue_emb rows rows_cover rows_disjoint _ h j

/-- The device's rows of the result. -/
def result (c : Dev nD) : Vec F S512x512 .f32 := k0_pay1 (ownBoth m c) (answer m c)

end Cert.Moe

end
-- ==== Proof.Protocol.lean ====
/-
# How the two devices of a pair talk

Each device signals its partner's barrier and waits for its own, then makes four remote copies into its partner: its rows
of `x`, their expert numbers, and the two halves of the answer for the partner's rows. Copy `k` completes on the sender's
send semaphore `k` and on the receiver's receive semaphore `k`. Every semaphore is used for one round only. A barrier unit
carries the right to write the four landing areas of the device that signalled; a receive semaphore carries its landing
area back at the contents that came; a send semaphore carries the copied area back.
-/
module

public import proofs.«01_k».proof.Proof.Contents
public import Idealize.ShloMosaic.Lib.Rounds

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

/-- The resource algebra: one copy for the staging transfers, one for the talk between devices. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ)

/-! ## Semaphores -/

abbrev barS : Sem sig := barrier0
/-- The semaphores of copy `k`, at the sender and at the receiver. -/
abbrev sendS (k : Fin 4) : DmaSem sig := ⟨5 + k.val, by have := k.isLt; show _ < 13; omega⟩
abbrev recvS (k : Fin 4) : DmaSem sig := ⟨9 + k.val, by have := k.isLt; show _ < 13; omega⟩

abbrev barCell (c : Dev nD) : GSem nD τ sig := ((c : Thread nD τ), .reg barS)
abbrev sendCell (k : Fin 4) (c : Dev nD) : GSem nD τ sig := ((c : Thread nD τ), .dma (sendS k))
abbrev recvCell (k : Fin 4) (c : Dev nD) : GSem nD τ sig := ((c : Thread nD τ), .dma (recvS k))

/-- What a semaphore is for: the barrier, the sending or the receiving end of a copy, or something else. -/
inductive Role where
  | bar | send (k : Fin 4) | recv (k : Fin 4) | other
  deriving DecidableEq

def role : SemLoc sig → Role
  | .reg _ => .bar
  | .dma s => if h : 5 ≤ s.val ∧ s.val < 9 then .send ⟨s.val - 5, by omega⟩
      else if h : 9 ≤ s.val ∧ s.val < 13 then .recv ⟨s.val - 9, by omega⟩ else .other

theorem role_bar : role (.reg barS) = .bar := rfl
theorem role_send (k : Fin 4) : role (.dma (sendS k)) = .send k := by revert k; decide
theorem role_recv (k : Fin 4) : role (.dma (recvS k)) = .recv k := by revert k; decide

/-! ## The areas -/

abbrev xSrc : Memref sig .tc .vmem S512x512 .bf16 := Memref.whole cc0_scratch0
abbrev xDst : Memref sig .tc .vmem S512x512 .bf16 := Memref.whole cc0_scratch1
abbrev idSrc : Memref sig .tc .vmem S512x1 .i32 := Memref.whole cc0_scratch2
abbrev idDst : Memref sig .tc .vmem S512x1 .i32 := Memref.whole cc0_scratch3
abbrev ansSrc : Memref sig .tc .vmem S512x512 .bf16 := Memref.whole cc0_scratch4
abbrev ansDst : Memref sig .tc .vmem S512x512 .bf16 := Memref.whole cc0_scratch5
/-- Half `h` of the two answer buffers. -/
abbrev halfSrc (h : Fin 2) : Memref sig .tc .vmem S256x512 .bf16 := ansSrc.slice (rows h) (fun _ => rfl)
abbrev halfDst (h : Fin 2) : Memref sig .tc .vmem S256x512 .bf16 := ansDst.slice (rows h) (fun _ => rfl)

/-- Device `c` owns the elements of the memref `a`, at contents not chosen. -/
abbrev held {sp : Space} {s : Shape} {e : EltTy} (c : Dev nD) (a : Memref sig .tc sp s e) : sProp 𝕄 :=
  iprop(∃ f, a.view.loc (c : Thread nD τ) ↦[a.view.set]{fullShare} f)

/-- Device `c` owns the elements of the memref `a`, which read `X`. -/
abbrev has {sp : Space} {s : Shape} {e : EltTy} (c : Dev nD) (a : Memref sig .tc sp s e) (X : s.Idx → Elt F e) : sProp 𝕄 :=
  owns (c : Thread nD τ) a fullShare X

/-- Contents known are contents. -/
theorem has_held {sp : Space} {s : Shape} {e : EltTy} (c : Dev nD) (a : Memref sig .tc sp s e) (X : s.Idx → Elt F e) :
    (has c a X : sProp 𝕄) ⊢ held c a := by
  unfold has owns; iintro ⟨%f, -, H⟩; iexists f; iexact H

/-- The area copy `k` is made from, and the one it lands in. -/
def leaving (k : Fin 4) (c : Dev nD) : sProp 𝕄 :=
  match k with | 0 => held c xSrc | 1 => held c idSrc | 2 => held c (halfSrc 0) | 3 => held c (halfSrc 1)
def landing (k : Fin 4) (c : Dev nD) : sProp 𝕄 :=
  match k with | 0 => held c xDst | 1 => held c idDst | 2 => held c (halfDst 0) | 3 => held c (halfDst 1)

/-- The landing area of copy `k` once the copy has come. -/
def landed (k : Fin 4) (c : Dev nD) : sProp 𝕄 :=
  match k with
  | 0 => has c xDst (xOut m (peer c))
  | 1 => has c idDst (idOut m (peer c))
  | 2 => has c (halfDst 0) (sent m (peer c) 0)
  | 3 => has c (halfDst 1) (sent m (peer c) 1)

/-- What copy `k` counts on its semaphores. -/
def amt (k : Fin 4) : ℕ :=
  match k with
  | 0 => xDst.view.dmaCredit | 1 => idDst.view.dmaCredit | 2 => (halfDst 0).view.dmaCredit | 3 => (halfDst 1).view.dmaCredit

theorem amt_pos (k : Fin 4) : 0 < amt k := by
  match k with
  | 0 => exact View.dmaCredit_pos _ (by decide)
  | 1 => exact View.dmaCredit_pos _ (by decide)
  | 2 => exact View.dmaCredit_pos _ (by decide)
  | 3 => exact View.dmaCredit_pos _ (by decide)

instance leaving_storable (k : Fin 4) (c : Dev nD) : BI.Storable (upEmb : UEmb _ 𝕄) (leaving (F := F) k c) := by
  unfold leaving; split <;> infer_instance
instance landing_storable (k : Fin 4) (c : Dev nD) : BI.Storable (upEmb : UEmb _ 𝕄) (landing (F := F) k c) := by
  unfold landing; split <;> infer_instance
instance landed_storable (k : Fin 4) (c : Dev nD) : BI.Storable (upEmb : UEmb _ 𝕄) (landed m k c) := by
  unfold landed; split <;> infer_instance

/-- Four things, one for each copy. -/
abbrev four (Φ : Fin 4 → sProp 𝕄) : sProp 𝕄 := iprop(Φ 0 ∗ Φ 1 ∗ Φ 2 ∗ Φ 3)

theorem bigSep_four (Φ : Fin 4 → sProp 𝕄) : bigSep Finset.univ Φ = four Φ :=
  bigSep_univ_eq_bigSepL [(0 : Fin 4), 1, 2, 3] (by decide) (by decide) Φ

/-- What a unit on `c`'s barrier carries: the partner's landing areas, each of them ready for its copy. -/
def ready (c : Dev nD) : sProp 𝕄 :=
  iprop(four (fun k => landing k (peer c)) ∗ four fun k => reached ER (recvCell k (peer c)) 0)

instance ready_storable (c : Dev nD) : BI.Storable (upEmb : UEmb _ 𝕄) (ready (F := F) c) := by
  unfold ready; infer_instance

/-! ## The schedule -/

/-- What one round of a semaphore in a given role carries. -/
def carries : Role → Dev nD → sProp 𝕄
  | .bar, c => ready c
  | .send k, c => leaving k c
  | .recv k, c => landed m k c
  | .other, _ => iprop(emp)

instance carries_storable (r : Role) (c : Dev nD) : BI.Storable (upEmb : UEmb _ 𝕄) (carries m r c) := by
  cases r <;> unfold carries <;> infer_instance

/-- What one round counts. -/
def counts : Role → ℕ
  | .bar => 1 | .send k => amt k | .recv k => amt k | .other => 1

theorem counts_pos (r : Role) : 0 < counts r := by
  cases r <;> first | exact Nat.one_pos | exact amt_pos _

/-- Round `0`, with one payment, on every semaphore that plays a part; no further round. -/
def sched : Rounds.Schedule (GSem nD τ sig) Unit 𝕄 where
  duties g r := if r = 0 ∧ g.1.2 = .tc ∧ role g.2 ≠ .other then {()} else ∅
  unitless _ := False
  amount g _ _ := counts (role g.2)
  payload g _ _ := carries m (role g.2) g.1.1
  amount_pos g _ _ _ := counts_pos _

instance sched_storable (g : GSem nD τ sig) (r : ℕ) (d : Unit) :
    BI.Storable (upEmb : UEmb _ 𝕄) ((sched m).payload g r d) := carries_storable m _ _

section Sched

variable {m} {c : Dev nD} {sm : SemLoc sig} {ρ : Role}

theorem duties_of (h : role sm = ρ) (ne : ρ ≠ .other) : (sched m).duties ((c : Thread nD τ), sm) 0 = {()} := by
  subst h; exact if_pos ⟨rfl, rfl, ne⟩

theorem mem_duties (h : role sm = ρ) (ne : ρ ≠ .other) : () ∈ (sched m).duties ((c : Thread nD τ), sm) 0 := by
  rw [duties_of h ne]; exact Finset.mem_singleton_self _

theorem amount_of (h : role sm = ρ) : (sched m).amount ((c : Thread nD τ), sm) 0 () = counts ρ := by subst h; rfl

theorem payload_of (h : role sm = ρ) : (sched m).payload ((c : Thread nD τ), sm) 0 () = carries m ρ c := by subst h; rfl

theorem expect_of (h : role sm = ρ) (ne : ρ ≠ .other) : (sched m).expect ((c : Thread nD τ), sm) 0 = counts ρ := by
  unfold Schedule.expect Schedule.amountOf
  rw [duties_of h ne, Finset.sum_singleton]; exact amount_of h

theorem rest_of (h : role sm = ρ) (ne : ρ ≠ .other) :
    bigSep ((sched m).duties ((c : Thread nD τ), sm) 0 \ ∅) (fun u => (sched m).payload ((c : Thread nD τ), sm) 0 u)
      = carries m ρ c := by
  rw [Finset.sdiff_empty, duties_of h ne, bigSep_singleton]; exact payload_of h

theorem duties_later (g : GSem nD τ sig) : ∀ r, 1 ≤ r → (sched m).duties g r = ∅ :=
  fun r hr => if_neg fun h => by omega

end Sched

/-! ## What a device owes; the order of waiting -/

/-- The units device `c` adds to its partner's receive semaphore `k`. -/
abbrev due (k : Fin 4) (c : Dev nD) : CellTallies nD τ sig Unit := tallyAt (recvCell k (peer c)) () (amt k)

/-- What device `c` owes at launch: the four copies and the barrier unit. -/
def owed₀ (c : Dev nD) : CellTallies nD τ sig Unit :=
  due 3 c + due 2 c + due 1 c + due 0 c + tallyAt (barCell (peer c)) () 1

/-- Every semaphore of a TensorCore can be waited on. -/
def L (g : GSem nD τ sig) : Finset Unit := if g.1.2 = .tc then {()} else ∅

/-- The barrier comes before the first two copies, and these before the answers; the rest come first of all. -/
def height : Role → ℕ
  | .bar => 1 | .send _ => 0 | .recv k => if k.val < 2 then 2 else 3 | .other => 0

def lv (g : GSem nD τ sig) (_ : Unit) : ℕ := height (role g.2)

theorem L_of_ne (g : GSem nD τ sig) (h : g.1.2 ≠ .tc) : L g = ∅ := if_neg h
theorem L_tc (c : Dev nD) (sm : SemLoc sig) : L ((c : Thread nD τ), sm) = {()} := if_pos rfl

/-- All that `O` counts is on semaphores above level `n`. -/
def Above (n : ℕ) (O : CellTallies nD τ sig Unit) : Prop := ∀ g u, 0 < O g u → u ∈ L g ∧ n < lv g u

theorem above_zero (n : ℕ) : Above n 0 := fun _ _ h => absurd h (Nat.lt_irrefl 0)

theorem above_add {n : ℕ} {O O' : CellTallies nD τ sig Unit} (h : Above n O) (h' : Above n O') : Above n (O + O') :=
  fun g u hg => by
    rw [Pi.add_apply, Finsupp.add_apply] at hg
    exact (Nat.add_pos_iff_pos_or_pos.mp hg).elim (h g u) (h' g u)

theorem above_tally {n : ℕ} (c : Dev nD) (sm : SemLoc sig) (k : ℕ) (h : n < height (role sm)) :
    Above n (tallyAt ((c : Thread nD τ), sm) () k) := fun g u hg => by
  rw [tallyAt_apply] at hg
  split at hg
  · next e => rw [e.1, L_tc]; exact ⟨Finset.mem_singleton_self _, h⟩
  · exact absurd hg (Nat.lt_irrefl 0)

theorem above_due {n : ℕ} (k : Fin 4) (c : Dev nD) (h : n < height (.recv k)) : Above n (due k c) :=
  above_tally _ _ _ (by rw [role_recv]; exact h)

theorem above_owed₀ (c : Dev nD) : Above 0 (owed₀ c) :=
  above_add (above_add (above_add (above_add (above_due _ _ (by decide)) (above_due _ _ (by decide)))
    (above_due _ _ (by decide))) (above_due _ _ (by decide))) (above_tally _ _ _ (by decide))

/-- A device may wait on a semaphore that lies at or below `n` while all it owes lies above `n`. -/
theorem mayWait {n : ℕ} (c : Dev nD) (sm : SemLoc sig) {O : CellTallies nD τ sig Unit} (hO : Above n O)
    (h : height (role sm) ≤ n) : (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u hg => (hO g u hg).1)
    (fun p hp => by rw [Finset.mem_singleton.mp hp]; exact h)
    (fun g u hg => (hO g u hg).2)

/-! ## The records and rights of one device -/

/-- The invariants of all the semaphores that play a part, under the names `K`. -/
def invs (K : GSem nD τ sig → ℕ) : sProp 𝕄 :=
  bigSep Finset.univ fun c : Dev nD => iprop(cellInv ER (sched m) (K (barCell c)) (barCell c)
    ∗ (bigSep Finset.univ fun k : Fin 4 => cellInv ER (sched m) (K (sendCell k c)) (sendCell k c))
    ∗ bigSep Finset.univ fun k : Fin 4 => cellInv ER (sched m) (K (recvCell k c)) (recvCell k c))

instance invs_persistent (K : GSem nD τ sig → ℕ) : BI.Persistent (invs m K) := by unfold invs; infer_instance

theorem invs_at (K : GSem nD τ sig → ℕ) (c : Dev nD) : invs m K ⊢ iprop(cellInv ER (sched m) (K (barCell c)) (barCell c)
    ∗ (bigSep Finset.univ fun k : Fin 4 => cellInv ER (sched m) (K (sendCell k c)) (sendCell k c))
    ∗ bigSep Finset.univ fun k : Fin 4 => cellInv ER (sched m) (K (recvCell k c)) (recvCell k c)) :=
  bigSep_elim (Finset.mem_univ c)

theorem inv_bar (K : GSem nD τ sig → ℕ) (c : Dev nD) : invs m K ⊢ cellInv ER (sched m) (K (barCell c)) (barCell c) := by
  refine (invs_at m K c).trans ?_
  iintro ⟨H, -, -⟩; iexact H
theorem inv_send (K : GSem nD τ sig → ℕ) (k : Fin 4) (c : Dev nD) :
    invs m K ⊢ cellInv ER (sched m) (K (sendCell k c)) (sendCell k c) := by
  refine (invs_at m K c).trans ?_
  iintro ⟨-, H, -⟩
  iapply (show (bigSep Finset.univ fun k : Fin 4 => cellInv ER (sched m) (K (sendCell k c)) (sendCell k c))
    ⊢ (cellInv ER (sched m) (K (sendCell k c)) (sendCell k c) : sProp 𝕄) from bigSep_elim (Finset.mem_univ k)) $$ H
theorem inv_recv (K : GSem nD τ sig → ℕ) (k : Fin 4) (c : Dev nD) :
    invs m K ⊢ cellInv ER (sched m) (K (recvCell k c)) (recvCell k c) := by
  refine (invs_at m K c).trans ?_
  iintro ⟨-, -, H⟩
  iapply (show (bigSep Finset.univ fun k : Fin 4 => cellInv ER (sched m) (K (recvCell k c)) (recvCell k c))
    ⊢ (cellInv ER (sched m) (K (recvCell k c)) (recvCell k c) : sProp 𝕄) from bigSep_elim (Finset.mem_univ k)) $$ H

end Cert.Moe

end
-- ==== Proof.Steps.lean ====
/-
# The steps of the kernel

One rule for each kind of step a device takes: reading a part of a buffer, writing a buffer or a half of it, the signal to
the partner, the wait on the own barrier, a remote copy, the wait on a copy's semaphore, and the end of a semaphore's use.
Each is stated once, for every buffer and every copy it serves.
-/
module

public import proofs.«01_k».proof.Proof.Protocol

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : GSem nD τ sig → ℕ) (c : Dev nD)

abbrev 𝒱₀ : Variants := Variants.none

/-- What is known of a program run by device `c`. -/
abbrev runs {α : Type} (p : Prog (TpuEff nD τ sig (Elt F) Λ₀ .tc) α) (Q : α → sProp 𝕄) : sProp 𝕄 :=
  wp frame (wpE (defs₀ (F := F)) 𝒱₀ (c : Thread nD τ) none) Set.univ p Q

variable {c}

/-- A part that only returns a value. -/
theorem done {α : Type} {Q : α → sProp 𝕄} (a : α) : Q a ⊢ runs c (.ret a) Q := by
  unfold runs; rw [wp_ret]
  iintro H; imodintro; iexact H

/-- The same, with an update before the return. -/
theorem done_upd {α : Type} {Q : α → sProp 𝕄} (a : α) : iprop(|={Set.univ}=> Q a) ⊢ runs c (.ret a) Q := by
  unfold runs; rw [wp_ret]

/-! ## Reading and writing -/

/-- Reading the rectangle `r` of a buffer the device holds whole. -/
theorem load_part {α : Type} {Q : α → sProp 𝕄} {cs : CoreSpace} {s : Shape} {e : EltTy} (a : Memref sig .tc cs s e) {r : LoadRect s} {hl : a.view.LoadsAt r}
    {X : s.Idx → Elt F e} {k : (r.shape.Idx → Elt F e) → Prog (TpuEff nD τ sig (Elt F) Λ₀ .tc) α} :
    has c a X ⊢ iprop((has c a X -∗ runs c (k fun j => X (r.idx j)) Q) -∗ runs c (.op (.load a r hl) k) Q) := by
  unfold has owns
  iintro ⟨%f, %hf, H⟩ Hk
  iapply (wp_load 𝒱₀ (c : Thread nD τ) none Set.univ (m := a) (View.setOn_subset_set _ _)) $$ H
  iintro H
  rw [show a.view.readAt (Elt F) r f = fun j => X (r.idx j) from by rw [← hf]; rfl]
  iapply Hk
  iexists f
  isplitr; · ipureintro; exact hf
  iexact H

/-- Reading a rectangle of a buffer the device holds whole, under the name `Y` of what is there. -/
theorem load_as {α : Type} {Q : α → sProp 𝕄} {cs : CoreSpace} {s : Shape} {e : EltTy} (a : Memref sig .tc cs s e) {r : LoadRect s} {hl : a.view.LoadsAt r}
    {X : s.Idx → Elt F e} (Y : r.shape.Idx → Elt F e) (h : (fun j => X (r.idx j)) = Y)
    {k : (r.shape.Idx → Elt F e) → Prog (TpuEff nD τ sig (Elt F) Λ₀ .tc) α} :
    has c a X ⊢ iprop((has c a X -∗ runs c (k Y) Q) -∗ runs c (.op (.load a r hl) k) Q) := by
  subst h; exact load_part a

/-- A rectangle that starts at the origin and has all the sizes places every element at itself. -/
theorem emb_all {s : Shape} {off : Fin s.rank → Nat} (hz : off = fun _ => 0) {inb : ∀ i, off i + s.size i ≤ s.size i} (j : s.Idx) :
    (Rect.unit off s.size inb).emb j = j := by
  subst hz
  funext i
  refine Fin.ext ?_
  exact Eq.trans (b := 0 + 1 * (j i).val) rfl (by omega)

/-- Reading all of a buffer. -/
theorem load_all {α : Type} {Q : α → sProp 𝕄} {cs : CoreSpace} {s : Shape} {e : EltTy} (a : Memref sig .tc cs s e) {off : Fin s.rank → Nat} (hz : off = fun _ => 0)
    {inb : ∀ i, off i + s.size i ≤ s.size i} {hl : a.view.LoadsAt (Rect.unit off s.size inb).toLoadRect}
    {X : s.Idx → Elt F e} {k : (s.Idx → Elt F e) → Prog (TpuEff nD τ sig (Elt F) Λ₀ .tc) α} :
    has c a X ⊢ iprop((has c a X -∗ runs c (k X) Q)
      -∗ runs c (.op (.load a (Rect.unit off s.size inb).toLoadRect hl) k) Q) := by
  have h : (fun j => X ((Rect.unit off s.size inb).toLoadRect.idx j)) = X :=
    funext fun j => congrArg X (emb_all hz j)
  have := load_part (Q := Q) (c := c) a (hl := hl) (X := X) (k := k)
  rw [h] at this
  exact this

/-- Reading the rectangle `r` of a buffer of which the device holds that rectangle. -/
theorem load_half {α : Type} {Q : α → sProp 𝕄} {cs : CoreSpace} {s : Shape} {e : EltTy} (a : Memref sig .tc cs s e) {r : Rect s} (hr : ∀ i, r.stride i = 1)
    {hl : a.view.LoadsAt r.toLoadRect} {k : (r.shape.Idx → Elt F e) → Prog (TpuEff nD τ sig (Elt F) Λ₀ .tc) α} :
    (held c (a.slice r hr) : sProp 𝕄)
      ⊢ iprop((∀ X, held c (a.slice r hr) -∗ runs c (k X) Q) -∗ runs c (.op (.load a r.toLoadRect hl) k) Q) := by
  unfold held
  iintro ⟨%f, H⟩ Hk
  iapply (wp_load 𝒱₀ (c : Thread nD τ) none Set.univ (m := a) (S := (a.slice r hr).view.set)
    (show a.view.setOn r.set ⊆ (a.view.slice r).set from (View.set_slice a.view r).symm ▸ subset_rfl)) $$ H
  iintro H
  iapply Hk
  iexists f
  iexact H

/-- Writing the rectangle `r` of a buffer of which the device holds that rectangle. -/
theorem store_half {α : Type} {Q : α → sProp 𝕄} {cs : CoreSpace} {s : Shape} {e : EltTy} (a : Memref sig .tc cs s e) {r : Rect s} (hr : ∀ i, r.stride i = 1)
    {w : r.shape.Idx → Elt F e} {hx : (a.access r).Stores Finset.univ} {hm}
    {k : PUnit → Prog (TpuEff nD τ sig (Elt F) Λ₀ .tc) α} :
    (held c (a.slice r hr) : sProp 𝕄)
      ⊢ iprop((has c (a.slice r hr) w -∗ runs c (k ⟨⟩) Q) -∗ runs c (.op (.store a r w Finset.univ hx hm) k) Q) := by
  unfold held has owns
  iintro ⟨%f, H⟩ Hk
  iapply (wp_store 𝒱₀ (c : Thread nD τ) none Set.univ (m := a) (r := r) (Mk := Finset.univ) (S := (a.slice r hr).view.set)
    subset_rfl) $$ H
  iintro H
  iapply Hk
  iexists _
  isplitr [H]; rotate_left; · iexact H
  ipureintro; exact View.read_write_univ _ _

/-- Writing all of a buffer. -/
theorem store_all {α : Type} {Q : α → sProp 𝕄} {cs : CoreSpace} {s : Shape} {e : EltTy} (a : Memref sig .tc cs s e) {off : Fin s.rank → Nat} (hz : off = fun _ => 0)
    {inb : ∀ i, off i + s.size i ≤ s.size i} {w : s.Idx → Elt F e} {hx : (a.access (Rect.unit off s.size inb)).Stores Finset.univ} {hm}
    {k : PUnit → Prog (TpuEff nD τ sig (Elt F) Λ₀ .tc) α} :
    (held c a : sProp 𝕄) ⊢ iprop((has c a w -∗ runs c (k ⟨⟩) Q)
      -∗ runs c (.op (.store a (Rect.unit off s.size inb) w Finset.univ hx hm) k) Q) := by
  unfold held has owns
  iintro ⟨%f, H⟩ Hk
  iapply (wp_store 𝒱₀ (c : Thread nD τ) none Set.univ (m := a) (r := Rect.unit off s.size inb) (Mk := Finset.univ)
    (S := a.view.set) ((View.setOn_subset_set _ _).trans (View.set_slice_subset _ _))) $$ H
  iintro H
  iapply Hk
  iexists _
  isplitr [H]; rotate_left; · iexact H
  ipureintro
  funext j
  have h := congrFun (View.read_write_univ (v := a.access (Rect.unit off s.size inb)) (Val := Elt F) f w) j
  refine Eq.trans (congrArg (a.view.read (Elt F) _) (emb_all hz j).symm) h

/-- Contents not chosen are still some contents. -/
theorem held_has {sp : Space} {s : Shape} {e : EltTy} (c : Dev nD) (a : Memref sig .tc sp s e) :
    (held c a : sProp 𝕄) ⊢ iprop(∃ X, has c a X) := by
  unfold held has owns
  iintro ⟨%f, H⟩; iexists _; iexists f
  isplitr; · ipureintro; rfl
  iexact H

/-- Reading all of a buffer whose contents do not matter. -/
theorem load_any {α : Type} {Q : α → sProp 𝕄} {cs : CoreSpace} {s : Shape} {e : EltTy} (a : Memref sig .tc cs s e) {r : LoadRect s}
    {hl : a.view.LoadsAt r} {k : (r.shape.Idx → Elt F e) → Prog (TpuEff nD τ sig (Elt F) Λ₀ .tc) α} :
    (held c a : sProp 𝕄) ⊢ iprop((∀ X, held c a -∗ runs c (k X) Q) -∗ runs c (.op (.load a r hl) k) Q) := by
  iintro H Hk
  ihave ⟨%X, H⟩ := (held_has c a) $$ H
  iapply (load_part a) $$ H
  iintro H
  iapply Hk
  iapply (has_held c a X) $$ H

/-! ## Semaphores -/

/-- The kernel's name for the sending semaphore of copy `k`. -/
theorem send_sem (k : Fin 4) {off : Fin 1 → Nat} (h : off = ![k.val]) {inb} {sq} :
    (((cc0_scratch8.slice (Rect.unit (s := S4) off S1.size inb)).squeeze S_ sq).sem : DmaSem sig) = sendS k := by
  subst h; revert k; decide

/-- The kernel's name for the receiving semaphore of copy `k`. -/
theorem recv_sem (k : Fin 4) {off : Fin 1 → Nat} (h : off = ![k.val]) {inb} {sq} :
    (((cc0_scratch9.slice (Rect.unit (s := S4) off S1.size inb)).squeeze S_ sq).sem : DmaSem sig) = recvS k := by
  subst h; revert k; decide

/-- A copied area counts as much as the area its copy lands in. -/
theorem credit_0 : xSrc.view.dmaCredit = amt 0 := by unfold amt; decide
theorem credit_1 : idSrc.view.dmaCredit = amt 1 := by unfold amt; decide
theorem credit_2 : (halfSrc 0).view.dmaCredit = amt 2 := by unfold amt; decide
theorem credit_3 : (halfSrc 1).view.dmaCredit = amt 3 := by unfold amt; decide

/-- Device `c` owes `O`, whatever it has waited for. -/
abbrev owing (c : Dev nD) (O : CellTallies nD τ sig Unit) : sProp 𝕄 := iprop(∃ W, owes (c : Thread nD τ) O W)

/-- The right to make copy `k` from device `c`. -/
def ticket (k : Fin 4) (c : Dev nD) : sProp 𝕄 :=
  iprop(dutyTok ER (sendCell k c) 0 () ∗ reached ER (sendCell k c) 0 ∗ dutyTok ER (recvCell k (peer c)) 0 ())

/-- Device `c`'s place on its semaphore `sm`: no round waited for yet, or the one round. -/
abbrev fresh (c : Dev nD) (sm : SemLoc sig) : sProp 𝕄 := atPos ER ((c : Thread nD τ), sm) 0 ∅ 0
abbrev spent (c : Dev nD) (sm : SemLoc sig) : sProp 𝕄 := atPos ER ((c : Thread nD τ), sm) 1 ∅ 0

/-- The signal to the partner: the unit carries the device's landing areas. -/
theorem signal_peer {α : Type} {Q : α → sProp 𝕄} {d : Dev nD} (hd : d = peer c) {O : CellTallies nD τ sig Unit}
    {k : PUnit → Prog (TpuEff nD τ sig (Elt F) Λ₀ .tc) α} :
    iprop(invs m K ∗ owing c (O + tallyAt (barCell (peer c)) () 1) ∗ dutyTok ER (barCell (peer c)) 0 () ∗ reached ER (barCell (peer c)) 0
        ∗ four (fun k => landing k c) ∗ four (fun k => reached ER (recvCell k c) 0))
      ⊢ iprop((owing c O -∗ runs c (k ⟨⟩) Q) -∗ runs c (.op (.semSignal (d : Thread nD τ) barS 1) k) Q) := by
  subst hd
  iintro ⟨#HI, ⟨%W, HO⟩, Ht, Hr, Hl, Hv⟩ Hk
  iapply (Rounds.wp_signal 𝒱₀ ER (sched m) (c : Thread nD τ) none (dst := (peer c : Thread nD τ)) (sem := barS) (r := 0) (d := ())
      (κ := K (barCell (peer c))) (mem_duties role_bar (by decide)) (amount_of role_bar) () O rfl) $$ [HO Ht Hr Hl Hv]
  · isplitr; · iapply (inv_bar m K (peer c)); iexact HI
    isplitl [HO]; · iexact HO
    isplitl [Ht]; · iexact Ht
    isplitl [Hl Hv]
    · rw [payload_of role_bar, show carries m .bar (peer c) = ready (peer c) from rfl]
      unfold ready; rw [peer_peer]
      isplitl [Hl]; · iexact Hl
      iexact Hv
    · iexact Hr
  iintro HO
  iapply Hk; iexists W; iexact HO

/-- The wait on the own barrier: the partner's landing areas come. -/
theorem wait_bar {α : Type} {Q : α → sProp 𝕄} {O : CellTallies nD τ sig Unit} (hO : Above 1 O)
    {k : PUnit → Prog (TpuEff nD τ sig (Elt F) Λ₀ .tc) α} :
    iprop(invs m K ∗ levAts L lv ∗ owing c O ∗ cred (tallyAt (barCell c) () 1) ∗ fresh c (.reg barS))
      ⊢ iprop((owing c O ∗ spent c (.reg barS) ∗ ready c -∗ runs c (k ⟨⟩) Q) -∗ runs c (.op (.semWait barS 1) k) Q) := by
  iintro ⟨#HI, #Hl, ⟨%W, HO⟩, Hc, Hat⟩ Hk
  iapply (Rounds.wp_wait_rest_token 𝒱₀ ER (sched m) (c : Thread nD τ) none (κ := K (barCell c))
      (wpE_semWait_eq 𝒱₀ (c : Thread nD τ) none Set.univ) (Set.mem_univ _) () (O := O) (W := W) (R := 0) (m := 0) (T := ∅)
      ((Nat.zero_add 1).trans (expect_of role_bar (by decide)).symm)) $$ [Hc HO Hat]
  · isplitr; · iapply (inv_bar m K c); iexact HI
    isplitl [Hc]; · iexact Hc
    isplitl [HO]; · iexact HO
    isplitr; · iapply (mayWait c (.reg barS) hO (by decide)); iexact Hl
    iexact Hat
  iintro ⟨HO, Hat, -, Hpay⟩
  ihave Hp := (Entails.of_eq ((rest_of role_bar (by decide)).trans (show carries m .bar c = ready c from rfl))) $$ Hpay
  iapply Hk
  isplitl [HO]; · iexists _; iexact HO
  isplitl [Hat]; · iexact Hat
  iexact Hp

/-- Copy `k`: the source's contents go to the partner's landing area. -/
theorem copy_peer {α : Type} {Q : α → sProp 𝕄} (j : Fin 4) {d : Dev nD} (hd : d = peer c) {sp sp' : Space} {s : Shape} {e : EltTy}
    {src : Memref sig .tc sp s e} {dst : Memref sig .tc sp' s e} {X : s.Idx → Elt F e} {sS sR : DmaSem sig}
    (h₁ : sS = sendS j) (h₂ : sR = recvS j) (hN : dst.view.dmaCredit = amt j)
    (hsrc' : (held c src : sProp 𝕄) ⊢ leaving j c) (hdst' : (has (peer c) dst X : sProp 𝕄) ⊢ landed m j (peer c))
    {O : CellTallies nD τ sig Unit} {hsc : dst.view.ref.isScScratch = false}
    {hsrc : src.view.WordExact} {hdst : dst.view.WordExact}
    {hsem}
    {k : PUnit → Prog (TpuEff nD τ sig (Elt F) Λ₀ .tc) α} :
    iprop(invs m K ∗ owing c (O + due j c) ∗ ticket j c ∗ reached ER (recvCell j (peer c)) 0 ∗ has c src X ∗ held (peer c) dst)
      ⊢ iprop((owing c O ∗ cred (tallyAt (sendCell j c) () (amt j)) -∗ runs c (k ⟨⟩) Q)
        -∗ runs c (.op (.enqueueDma src (.remote (Dev.tc d) dst (.dma sS) hsc) (.dma sR) hsrc hdst hsem) k) Q) := by
  subst hd h₁ h₂
  unfold ticket has owns held
  iintro ⟨#HI, ⟨%W, HO⟩, ⟨Ht, Hrs, Ht'⟩, Hrr, ⟨%fs, %hfs, Hs⟩, ⟨%fd, Hd⟩⟩ Hk
  iapply (Rounds.wp_send_pointsTo 𝒱₀ ER (sched m) (c : Thread nD τ) none (c' := (peer c : Thread nD τ)) (src := src) (dst := dst)
      (sS := .dma (sendS j)) (sem := .dma (recvS j)) (q := fullShare) (fs := fs) (fd := fd) (κ₁ := K (sendCell j c))
      (κ₂ := K (recvCell j (peer c))) (r₁ := 0) (r₂ := 0) (d₁ := ()) (d₂ := ())
      (mem_duties (role_send j) (by simp)) (mem_duties (role_recv j) (by simp)) () () (amt j) hN
      (amount_of (role_send j)) (amount_of (role_recv j)) O rfl (W := W)
      (by rw [payload_of (role_send j)]; refine BIBase.Entails.trans ?_ hsrc'; iintro H; iexists fs; iexact H)
      (by
        rw [payload_of (role_recv j)]
        refine BIBase.Entails.trans ?_ hdst'
        unfold has owns
        iintro H; iexists _
        isplitr; rotate_left; · iexact H
        ipureintro; rw [View.read_write_univ, hfs])) $$ [HO Ht Hrs Ht' Hrr Hs Hd]
  · isplitr; · iapply (inv_send m K j c); iexact HI
    isplitr; · iapply (inv_recv m K j (peer c)); iexact HI
    isplitl [Hs]; · iexact Hs
    isplitl [Hd]; · iexact Hd
    isplitl [HO]; · iexact HO
    isplitl [Ht]; · iexact Ht
    isplitl [Hrs]; · iexact Hrs
    isplitl [Ht']; · iexact Ht'
    iexact Hrr
  iintro ⟨Hc, HO⟩
  iapply Hk
  isplitl [HO]; · iexists W; iexact HO
  iexact Hc

/-- The wait on a semaphore of a copy: what its round carries comes. -/
theorem wait_copy {α : Type} {Q : α → sProp 𝕄} {ρ : Role} {sm : DmaSem sig} (hρ : role (.dma sm) = ρ) (ne : ρ ≠ .other)
    {O : CellTallies nD τ sig Unit} {n : ℕ} (hO : Above n O) (hn : height ρ ≤ n) {sp sp' : Space} {s s' : Shape} {e e' : EltTy}
    {sem : DmaSem sig} (hs : sem = sm) {src : Memref sig .tc sp' s' e'} {dst : Memref sig .tc sp s e}
    (hN : dst.view.dmaCredit = counts ρ) {hsrc : src.view.WordExact} {hdst : dst.view.WordExact}
    {k : PUnit → Prog (TpuEff nD τ sig (Elt F) Λ₀ .tc) α}
    (hinv : invs m K ⊢ cellInv ER (sched m) (K ((c : Thread nD τ), .dma sm)) ((c : Thread nD τ), .dma sm)) :
    iprop(invs m K ∗ levAts L lv ∗ owing c O ∗ cred (tallyAt ((c : Thread nD τ), .dma sm) () (counts ρ)) ∗ fresh c (.dma sm))
      ⊢ iprop((owing c O ∗ spent c (.dma sm) ∗ carries m ρ c -∗ runs c (k ⟨⟩) Q)
        -∗ runs c (.op (.waitDma2 sem src dst hsrc hdst) k) Q) := by
  subst hs
  rw [← hN]
  iintro ⟨#HI, #Hl, ⟨%W, HO⟩, Hc, Hat⟩ Hk
  iapply (Rounds.wp_wait_rest_token 𝒱₀ ER (sched m) (c : Thread nD τ) none (κ := K ((c : Thread nD τ), .dma sem))
      (wpE_waitDma2_eq 𝒱₀ (c : Thread nD τ) none Set.univ) (Set.mem_univ _) () (O := O) (W := W) (R := 0) (m := 0) (T := ∅)
      ((Nat.zero_add _).trans (hN.trans (expect_of hρ ne).symm))) $$ [Hc HO Hat]
  · isplitr; · iapply hinv; iexact HI
    isplitl [Hc]; · iexact Hc
    isplitl [HO]; · iexact HO
    isplitr; · iapply (mayWait c (.dma sem) hO (by rw [hρ]; exact hn)); iexact Hl
    iexact Hat
  iintro ⟨HO, Hat, -, Hpay⟩
  ihave Hp := (Entails.of_eq (rest_of hρ ne)) $$ Hpay
  iapply Hk
  isplitl [HO]; · iexists _; iexact HO
  isplitl [Hat]; · iexact Hat
  iexact Hp

/-- The wait for the end of copy `j` at its sender: the copied area is free again. -/
theorem wait_sent {α : Type} {Q : α → sProp 𝕄} (j : Fin 4) {O : CellTallies nD τ sig Unit} {n : ℕ} (hO : Above n O)
    {sp sp' : Space} {s s' : Shape} {e e' : EltTy} {sem : DmaSem sig} (hs : sem = sendS j)
    {src : Memref sig .tc sp' s' e'} {dst : Memref sig .tc sp s e}
    (hN : dst.view.dmaCredit = amt j) {hsrc : src.view.WordExact} {hdst : dst.view.WordExact}
    {k : PUnit → Prog (TpuEff nD τ sig (Elt F) Λ₀ .tc) α} :
    iprop(invs m K ∗ levAts L lv ∗ owing c O ∗ cred (tallyAt (sendCell j c) () (amt j)) ∗ fresh c (.dma (sendS j)))
      ⊢ iprop((owing c O ∗ spent c (.dma (sendS j)) ∗ leaving j c -∗ runs c (k ⟨⟩) Q)
        -∗ runs c (.op (.waitDma2 sem src dst hsrc hdst) k) Q) :=
  wait_copy m K (role_send j) (by simp) hO (Nat.zero_le _) hs hN (inv_send m K j c)

/-- The wait for copy `j` at its receiver: the landing area comes, with the partner's data. -/
theorem wait_got {α : Type} {Q : α → sProp 𝕄} (j : Fin 4) {O : CellTallies nD τ sig Unit} {n : ℕ} (hO : Above n O)
    (hn : height (.recv j) ≤ n) {sp sp' : Space} {s s' : Shape} {e e' : EltTy} {sem : DmaSem sig} (hs : sem = recvS j)
    {src : Memref sig .tc sp' s' e'} {dst : Memref sig .tc sp s e}
    (hN : dst.view.dmaCredit = amt j) {hsrc : src.view.WordExact} {hdst : dst.view.WordExact}
    {k : PUnit → Prog (TpuEff nD τ sig (Elt F) Λ₀ .tc) α} :
    iprop(invs m K ∗ levAts L lv ∗ owing c O ∗ cred (tallyAt (recvCell j c) () (amt j)) ∗ fresh c (.dma (recvS j)))
      ⊢ iprop((owing c O ∗ spent c (.dma (recvS j)) ∗ landed m j c -∗ runs c (k ⟨⟩) Q)
        -∗ runs c (.op (.waitDma2 sem src dst hsrc hdst) k) Q) :=
  wait_copy m K (role_recv j) (by simp) hO hn hs hN (inv_recv m K j c)

end Cert.Moe

end
-- ==== Proof.Parts.lean ====
/-
# What each part of the kernel does

The kernel's body is cut into eight parts and an end. For each, one theorem states what a device must hold before it and
what it holds after, with the value the part returns.
-/
module

public import proofs.«01_k».proof.Proof.Steps

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : GSem nD τ sig → ℕ) (c : Dev nD)

/-! ## The buffers -/

/-- The five windows. -/
abbrev xWin : Memref sig .tc .vmem S512x512 .bf16 := Memref.whole cc0_stg0_0
abbrev idWin : Memref sig .tc .vmem S512x1 .i32 := Memref.whole cc0_stg1_0
abbrev w₁Win : Memref sig .tc .vmem S2x512x1024 .bf16 := Memref.whole cc0_stg2_0
abbrev w₂Win : Memref sig .tc .vmem S2x1024x512 .bf16 := Memref.whole cc0_stg3_0
abbrev outWin : Memref sig .tc .vmem S512x512 .f32 := Memref.whole cc0_stg4_0
/-- The kernel's own copies of the two stacks of matrices. -/
abbrev w₁Buf : Memref sig .tc .vmem S2x512x1024 .bf16 := Memref.whole cc0_scratch6
abbrev w₂Buf : Memref sig .tc .vmem S2x1024x512 .bf16 := Memref.whole cc0_scratch7

/-- A part of the kernel, on the kernel's buffers. -/
abbrev onBufs {β : Type*} (p : (a0 : Memref sig .tc .vmem S512x512 .bf16) → a0.IsWhole → (a1 : Memref sig .tc .vmem S512x1 .i32) → a1.IsWhole
    → (a2 : Memref sig .tc .vmem S2x512x1024 .bf16) → a2.IsWhole → (a3 : Memref sig .tc .vmem S2x1024x512 .bf16) → a3.IsWhole
    → (a4 : Memref sig .tc .vmem S512x512 .f32) → a4.IsWhole → (a5 : Memref sig .tc .vmem S512x512 .bf16) → a5.IsWhole
    → (a6 : Memref sig .tc .vmem S512x512 .bf16) → a6.IsWhole → (a7 : Memref sig .tc .vmem S512x1 .i32) → a7.IsWhole
    → (a8 : Memref sig .tc .vmem S512x1 .i32) → a8.IsWhole → (a9 : Memref sig .tc .vmem S512x512 .bf16) → a9.IsWhole
    → (a10 : Memref sig .tc .vmem S512x512 .bf16) → a10.IsWhole → (a11 : Memref sig .tc .vmem S2x512x1024 .bf16) → a11.IsWhole
    → (a12 : Memref sig .tc .vmem S2x1024x512 .bf16) → a12.IsWhole → DmaSems sig S4 → DmaSems sig S4 → β) : β :=
  p xWin (Memref.isWhole_whole _) idWin (Memref.isWhole_whole _) w₁Win (Memref.isWhole_whole _) w₂Win (Memref.isWhole_whole _)
    outWin (Memref.isWhole_whole _) xSrc (Memref.isWhole_whole _) xDst (Memref.isWhole_whole _) idSrc (Memref.isWhole_whole _)
    idDst (Memref.isWhole_whole _) ansSrc (Memref.isWhole_whole _) ansDst (Memref.isWhole_whole _) w₁Buf (Memref.isWhole_whole _)
    w₂Buf (Memref.isWhole_whole _) cc0_scratch8 cc0_scratch9

theorem zero₂ : (![0, 0] : Fin 2 → Nat) = fun _ => 0 := by decide
theorem zero₃ : (![0, 0, 0] : Fin 3 → Nat) = fun _ => 0 := by decide

/-- The two matrix stacks, in the kernel's own buffers. -/
def bothStacks : sProp 𝕄 := iprop(has c w₁Buf (k0_pay4 (w₁In m c)) ∗ has c w₂Buf (k0_pay5 (w₂In m c)))

/-! ## The parts -/

/-- The first part: the meeting with the partner, then the copies of the device's rows and of their expert numbers. -/
theorem run_part1 {Q : (Σ' (_ : Dev nD) (_ : BitVec 32) (_ : BitVec 32) (_ : BitVec 32) (_ : BitVec 32), BitVec 32) → sProp 𝕄} : iprop(invs m K ∗ levAts L lv
      ∗ owing c (owed₀ c) ∗ dutyTok ER (barCell (peer c)) 0 () ∗ reached ER (barCell (peer c)) 0
      ∗ four (fun k => landing k c) ∗ four (fun k => reached ER (recvCell k c) 0)
      ∗ cred (tallyAt (barCell c) () 1) ∗ fresh c (.reg barS)
      ∗ has c xWin (xIn m c) ∗ has c idWin (idIn m c) ∗ held c xSrc ∗ held c idSrc)
    ⊢ iprop((∀ v5 v8 v9 v28, owing c (due 3 c + due 2 c + due 1 c + due 0 c) ∗ spent c (.reg barS) ∗ ready c
        ∗ has c xWin (xIn m c) ∗ has c idWin (idIn m c) ∗ has c xSrc (xOut m c) ∗ has c idSrc (idOut m c)
        -∗ Q ⟨c, place c, v5, v8, v9, v28⟩)
      -∗ runs c (onBufs (k0_part1 (F := F))) Q) := by
  simp only [onBufs, k0_part1_eq_skeleton]
  unfold k0_part1_skel place
  simp only [semSignalWord, semWaitWord, Prog.lift, Prog.bind_op, Prog.bind_ret, Prog.pure_eq_ret, wp_deviceId]
  iintro ⟨#HI, #Hlev, HO, Ht, Hr, Hland, Hrv, Hcb, Hab, Hx, Hid, Hxs, Hids⟩ Hk
  iapply (signal_peer m K (dev_eq_peer _ (k0_dev1_eq c))) $$ [HO Ht Hr Hland Hrv]
  · isplitr; · iexact HI
    isplitl [HO]; · iexact HO
    isplitl [Ht]; · iexact Ht
    isplitl [Hr]; · iexact Hr
    isplitl [Hland]; · iexact Hland
    iexact Hrv
  iintro HO
  iapply (wait_bar m K (O := due 3 c + due 2 c + due 1 c + due 0 c)
    (above_add (above_add (above_add (above_due _ _ (by decide)) (above_due _ _ (by decide))) (above_due _ _ (by decide)))
      (above_due _ _ (by decide)))) $$ [HO Hcb Hab]
  · isplitr; · iexact HI
    isplitr; · iexact Hlev
    isplitl [HO]; · iexact HO
    isplitl [Hcb]; · iexact Hcb
    iexact Hab
  iintro ⟨HO, Hab, Hrd⟩
  iapply (load_all xWin zero₂) $$ Hx; iintro Hx
  iapply (load_any xSrc) $$ Hxs; iintro %X Hxs
  iapply (store_all xSrc zero₂) $$ Hxs; iintro Hxs
  iapply (load_all idWin zero₂) $$ Hid; iintro Hid
  iapply (load_any idSrc) $$ Hids; iintro %Y Hids
  iapply (store_all idSrc zero₂) $$ Hids; iintro Hids
  iapply done
  iapply Hk
  isplitl [HO]; · iexact HO
  isplitl [Hab]; · iexact Hab
  isplitl [Hrd]; · iexact Hrd
  isplitl [Hx]; · iexact Hx
  isplitl [Hid]; · iexact Hid
  isplitl [Hxs]; · iexact Hxs
  iexact Hids

/-- The second part: the copies to the partner start, and the two matrix stacks are brought in. -/
theorem run_part2 {Q : (Σ' (_ : FVec F S512x512 .bf16), IVec S512x1 32) → sProp 𝕄} (v5 v8 v9 v28 : BitVec 32) : iprop(invs m K
      ∗ owing c (due 3 c + due 2 c + due 1 c + due 0 c) ∗ ticket 0 c ∗ ticket 1 c
      ∗ reached ER (recvCell 0 (peer c)) 0 ∗ reached ER (recvCell 1 (peer c)) 0
      ∗ landing 0 (peer c) ∗ landing 1 (peer c)
      ∗ has c xSrc (xOut m c) ∗ has c idSrc (idOut m c)
      ∗ has c xWin (xIn m c) ∗ has c idWin (idIn m c) ∗ has c w₁Win (w₁In m c) ∗ has c w₂Win (w₂In m c) ∗ held c w₁Buf ∗ held c w₂Buf)
    ⊢ iprop((owing c (due 3 c + due 2 c) ∗ cred (tallyAt (sendCell 0 c) () (amt 0)) ∗ cred (tallyAt (sendCell 1 c) () (amt 1))
        ∗ has c xWin (xIn m c) ∗ has c idWin (idIn m c) ∗ has c w₁Win (w₁In m c) ∗ has c w₂Win (w₂In m c) ∗ bothStacks m c
        -∗ Q ⟨k0_pay6 (xIn m c), k0_pay7 (F := F) (idIn m c)⟩)
      -∗ runs c (onBufs (k0_part2 (F := F)) c v5 v8 v9 v28) Q) := by
  simp only [onBufs, k0_part2_eq_skeleton]
  unfold k0_part2_skel
  simp only [Prog.lift, Prog.bind_op, Prog.bind_ret, Prog.pure_eq_ret]
  iintro ⟨#HI, HO, Ht0, Ht1, Hr0, Hr1, Hl0, Hl1, Hxs, Hids, Hx, Hid, Hw1, Hw2, Hb1, Hb2⟩ Hk
  iapply (copy_peer m K 0 (dev_eq_peer _ (k0_dev2_eq c)) (src := xSrc) (dst := xDst) (X := xOut m c) (send_sem 0 rfl) (recv_sem 0 rfl) rfl
    (by unfold leaving; exact BI.Entails.refl _) (by unfold landed; rw [peer_peer])
    (O := due 3 c + due 2 c + due 1 c)) $$ [HO Ht0 Hr0 Hl0 Hxs]
  · isplitr; · iexact HI
    isplitl [HO]; · iexact HO
    isplitl [Ht0]; · iexact Ht0
    isplitl [Hr0]; · iexact Hr0
    isplitl [Hxs]; · iexact Hxs
    unfold landing; iexact Hl0
  iintro ⟨HO, Hc0⟩
  iapply (copy_peer m K 1 (dev_eq_peer _ (k0_dev3_eq c)) (src := idSrc) (dst := idDst) (X := idOut m c) (send_sem 1 rfl) (recv_sem 1 rfl) rfl
    (by unfold leaving; exact BI.Entails.refl _) (by unfold landed; rw [peer_peer])
    (O := due 3 c + due 2 c)) $$ [HO Ht1 Hr1 Hl1 Hids]
  · isplitr; · iexact HI
    isplitl [HO]; · iexact HO
    isplitl [Ht1]; · iexact Ht1
    isplitl [Hr1]; · iexact Hr1
    isplitl [Hids]; · iexact Hids
    unfold landing; iexact Hl1
  iintro ⟨HO, Hc1⟩
  iapply (load_all w₁Win zero₃) $$ Hw1; iintro Hw1
  iapply (load_any w₁Buf) $$ Hb1; iintro %X Hb1
  iapply (store_all w₁Buf zero₃) $$ Hb1; iintro Hb1
  iapply (load_all w₂Win zero₃) $$ Hw2; iintro Hw2
  iapply (load_any w₂Buf) $$ Hb2; iintro %Y Hb2
  iapply (store_all w₂Buf zero₃) $$ Hb2; iintro Hb2
  iapply (load_all xWin zero₂) $$ Hx; iintro Hx
  iapply (load_all idWin zero₂) $$ Hid; iintro Hid
  iapply done
  iapply Hk
  unfold bothStacks
  isplitl [HO]; · iexact HO
  isplitl [Hc0]; · iexact Hc0
  isplitl [Hc1]; · iexact Hc1
  isplitl [Hx]; · iexact Hx
  isplitl [Hid]; · iexact Hid
  isplitl [Hw1]; · iexact Hw1
  isplitl [Hw2]; · iexact Hw2
  isplitl [Hb1]; · iexact Hb1
  iexact Hb2

/-- What a device owes while it works on its partner's rows lies above the first copies. -/
theorem above_answers : Above 2 (due 3 c + due 2 c) :=
  above_add (above_due _ _ (by decide)) (above_due _ _ (by decide))

/-- The third part: the device's own rows through its first expert; its two copies have gone, and the partner's rows have come. -/
theorem run_part3 {Q : PUnit → sProp 𝕄} (v5 v8 v9 : BitVec 32) : iprop(invs m K ∗ levAts L lv ∗ owing c (due 3 c + due 2 c)
      ∗ cred (tallyAt (sendCell 0 c) () (amt 0)) ∗ fresh c (.dma (sendS 0))
      ∗ cred (tallyAt (recvCell 0 c) () (amt 0)) ∗ fresh c (.dma (recvS 0))
      ∗ cred (tallyAt (sendCell 1 c) () (amt 1)) ∗ fresh c (.dma (sendS 1))
      ∗ bothStacks m c ∗ held c outWin)
    ⊢ iprop((owing c (due 3 c + due 2 c) ∗ spent c (.dma (sendS 0)) ∗ spent c (.dma (recvS 0)) ∗ spent c (.dma (sendS 1))
        ∗ leaving 0 c ∗ landed m 0 c ∗ leaving 1 c ∗ bothStacks m c ∗ has c outWin (ownFirst m c) -∗ Q ⟨⟩)
      -∗ runs c (onBufs (k0_part3 (F := F)) (place c) v5 v8 v9 (k0_pay6 (xIn m c)) (k0_pay7 (F := F) (idIn m c))) Q) := by
  simp only [onBufs, k0_part3_eq_skeleton]
  unfold k0_part3_skel bothStacks
  simp only [Prog.lift, Prog.bind_op, Prog.bind_ret, Prog.pure_eq_ret]
  iintro ⟨#HI, #Hlev, HO, Hc0, Ha0, Hd0, Hb0, Hc1, Ha1, ⟨Hw1, Hw2⟩, Ho⟩ Hk
  iapply (load_as w₁Buf (w₁ m c 0) rfl) $$ Hw1; iintro Hw1
  iapply (load_as w₂Buf (w₂ m c 0) rfl) $$ Hw2; iintro Hw2
  iapply (load_any outWin) $$ Ho; iintro %X Ho
  iapply (store_all outWin zero₂) $$ Ho; iintro Ho
  iapply (wait_sent m K 0 (O := due 3 c + due 2 c) (above_answers c) (send_sem 0 rfl) credit_0) $$ [HO Hc0 Ha0]
  · isplitr; · iexact HI
    isplitr; · iexact Hlev
    isplitl [HO]; · iexact HO
    isplitl [Hc0]; · iexact Hc0
    iexact Ha0
  iintro ⟨HO, Ha0, Hl0⟩
  iapply (wait_got m K 0 (O := due 3 c + due 2 c) (above_answers c) (by decide) (recv_sem 0 rfl) rfl) $$ [HO Hd0 Hb0]
  · isplitr; · iexact HI
    isplitr; · iexact Hlev
    isplitl [HO]; · iexact HO
    isplitl [Hd0]; · iexact Hd0
    iexact Hb0
  iintro ⟨HO, Hb0, Hg0⟩
  iapply (wait_sent m K 1 (O := due 3 c + due 2 c) (above_answers c) (send_sem 1 rfl) credit_1) $$ [HO Hc1 Ha1]
  · isplitr; · iexact HI
    isplitr; · iexact Hlev
    isplitl [HO]; · iexact HO
    isplitl [Hc1]; · iexact Hc1
    iexact Ha1
  iintro ⟨HO, Ha1, Hl1⟩
  iapply done
  iapply Hk
  isplitl [HO]; · iexact HO
  isplitl [Ha0]; · iexact Ha0
  isplitl [Hb0]; · iexact Hb0
  isplitl [Ha1]; · iexact Ha1
  isplitl [Hl0]; · iexact Hl0
  isplitl [Hg0]; · iexact Hg0
  isplitl [Hl1]; · iexact Hl1
  isplitl [Hw1 Hw2]
  · isplitl [Hw1]; · iexact Hw1
    iexact Hw2
  iexact Ho

/-- The fourth part: the partner's expert numbers have come; the first expert's work on the first half of its rows. -/
theorem run_part4 {Q : (Σ' (_ : Vec F S256x512 .bf16) (_ : FVec F S256x512 .f32) (_ : FVec F S256x1 .f32), Vec F S1x512x1024 .bf16) → sProp 𝕄}
    (v5 v8 v9 : BitVec 32) : iprop(invs m K ∗ levAts L lv ∗ owing c (due 3 c + due 2 c)
      ∗ cred (tallyAt (recvCell 1 c) () (amt 1)) ∗ fresh c (.dma (recvS 1)) ∗ landed m 0 c ∗ bothStacks m c)
    ⊢ iprop((owing c (due 3 c + due 2 c) ∗ spent c (.dma (recvS 1)) ∗ landed m 0 c ∗ landed m 1 c ∗ bothStacks m c
        -∗ Q ⟨xGot m c 0, k0_pay9 (place c) (xGot m c 0) (idGot m c 0) (w₁ m c 0) (w₂ m c 0), k0_pay10 (place c) (idGot m c 0), w₁ m c 1⟩)
      -∗ runs c (onBufs (k0_part4 (F := F)) (place c) v5 v8 v9) Q) := by
  simp only [onBufs, k0_part4_eq_skeleton]
  unfold k0_part4_skel bothStacks
  simp only [Prog.lift, Prog.bind_op, Prog.bind_ret, Prog.pure_eq_ret]
  iintro ⟨#HI, #Hlev, HO, Hc1, Ha1, Hg0, ⟨Hw1, Hw2⟩⟩ Hk
  iapply (wait_got m K 1 (O := due 3 c + due 2 c) (above_answers c) (by decide) (recv_sem 1 rfl) rfl) $$ [HO Hc1 Ha1]
  · isplitr; · iexact HI
    isplitr; · iexact Hlev
    isplitl [HO]; · iexact HO
    isplitl [Hc1]; · iexact Hc1
    iexact Ha1
  iintro ⟨HO, Ha1, Hg1⟩
  unfold landed
  iapply (load_as xDst (xGot m c 0) rfl) $$ Hg0; iintro Hg0
  iapply (load_as idDst (idGot m c 0) rfl) $$ Hg1; iintro Hg1
  iapply (load_as w₁Buf (w₁ m c 0) rfl) $$ Hw1; iintro Hw1
  iapply (load_as w₂Buf (w₂ m c 0) rfl) $$ Hw2; iintro Hw2
  iapply (load_as w₁Buf (w₁ m c 1) rfl) $$ Hw1; iintro Hw1
  iapply done
  iapply Hk
  isplitl [HO]; · iexact HO
  isplitl [Ha1]; · iexact Ha1
  isplitl [Hg0]; · iexact Hg0
  isplitl [Hg1]; · iexact Hg1
  isplitl [Hw1]; · iexact Hw1
  iexact Hw2

/-- The fifth part: the answer for the first half of the partner's rows is made and its copy starts. -/
theorem run_part5 {Q : (Σ' (_ : Vec F S256x512 .bf16) (_ : Vec F S256x1 .i32), IVec S256x1 32) → sProp 𝕄}
    (v5 v8 v9 : BitVec 32) : iprop(invs m K ∗ owing c (due 3 c + due 2 c)
      ∗ ticket 2 c ∗ reached ER (recvCell 2 (peer c)) 0 ∗ landing 2 (peer c) ∗ held c (halfSrc 0)
      ∗ landed m 0 c ∗ landed m 1 c ∗ bothStacks m c)
    ⊢ iprop((owing c (due 3 c) ∗ cred (tallyAt (sendCell 2 c) () (amt 2)) ∗ landed m 0 c ∗ landed m 1 c ∗ bothStacks m c
        -∗ Q ⟨xGot m c 1, idGot m c 1, k0_pay12 (F := F) (place c) (idGot m c 1)⟩)
      -∗ runs c (onBufs (k0_part5 (F := F)) c (place c) v5 v8 v9 (xGot m c 0)
          (k0_pay9 (place c) (xGot m c 0) (idGot m c 0) (w₁ m c 0) (w₂ m c 0)) (k0_pay10 (place c) (idGot m c 0)) (w₁ m c 1)) Q) := by
  simp only [onBufs, k0_part5_eq_skeleton]
  unfold k0_part5_skel bothStacks
  simp only [Prog.lift, Prog.bind_op, Prog.bind_ret, Prog.pure_eq_ret]
  iintro ⟨#HI, HO, Ht, Hr, Hl, Hs, Hg0, Hg1, ⟨Hw1, Hw2⟩⟩ Hk
  iapply (load_as w₂Buf (w₂ m c 1) rfl) $$ Hw2; iintro Hw2
  iapply (load_half ansSrc (r := rows 0) (fun _ => rfl)) $$ Hs; iintro %X Hs
  iapply (store_half ansSrc (r := rows 0) (fun _ => rfl)) $$ Hs; iintro Hs
  iapply (copy_peer m K 2 (dev_eq_peer _ (k0_dev4_eq c)) (src := halfSrc 0) (dst := halfDst 0) (X := sent m c 0) (send_sem 2 rfl) (recv_sem 2 rfl) rfl
    (by unfold leaving; exact BI.Entails.refl _) (by unfold landed; rw [peer_peer])
    (O := due 3 c)) $$ [HO Ht Hr Hl Hs]
  · isplitr; · iexact HI
    isplitl [HO]; · iexact HO
    isplitl [Ht]; · iexact Ht
    isplitl [Hr]; · iexact Hr
    isplitl [Hs]; · iexact Hs
    unfold landing; iexact Hl
  iintro ⟨HO, Hc⟩
  unfold landed
  iapply (load_as xDst (xGot m c 1) rfl) $$ Hg0; iintro Hg0
  iapply (load_as idDst (idGot m c 1) rfl) $$ Hg1; iintro Hg1
  iapply done
  iapply Hk
  isplitl [HO]; · iexact HO
  isplitl [Hc]; · iexact Hc
  isplitl [Hg0]; · iexact Hg0
  isplitl [Hg1]; · iexact Hg1
  isplitl [Hw1]; · iexact Hw1
  iexact Hw2

/-- The sixth part: the answer for the second half of the partner's rows is made. -/
theorem run_part6 {Q : BitVec 32 → sProp 𝕄} : iprop(held c (halfSrc 1) ∗ bothStacks m c)
    ⊢ iprop((∀ v, has c (halfSrc 1) (sent m c 1) ∗ bothStacks m c -∗ Q v)
      -∗ runs c (onBufs (k0_part6 (F := F)) (place c) (xGot m c 1) (idGot m c 1) (k0_pay12 (F := F) (place c) (idGot m c 1))) Q) := by
  simp only [onBufs, k0_part6_eq_skeleton]
  unfold k0_part6_skel bothStacks
  simp only [Prog.lift, Prog.bind_op, Prog.bind_ret, Prog.pure_eq_ret]
  iintro ⟨Hs, ⟨Hw1, Hw2⟩⟩ Hk
  iapply (load_as w₁Buf (w₁ m c 0) rfl) $$ Hw1; iintro Hw1
  iapply (load_as w₂Buf (w₂ m c 0) rfl) $$ Hw2; iintro Hw2
  iapply (load_as w₁Buf (w₁ m c 1) rfl) $$ Hw1; iintro Hw1
  iapply (load_as w₂Buf (w₂ m c 1) rfl) $$ Hw2; iintro Hw2
  iapply (load_half ansSrc (r := rows 1) (fun _ => rfl)) $$ Hs; iintro %X Hs
  iapply (store_half ansSrc (r := rows 1) (fun _ => rfl)) $$ Hs; iintro Hs
  iapply done
  iapply Hk
  isplitl [Hs]; · iexact Hs
  isplitl [Hw1]; · iexact Hw1
  iexact Hw2

/-- The seventh part: the copy of the second half of the answer starts; the device's own rows through its second expert. -/
theorem run_part7 {Q : FVec F S512x512 .f32 → sProp 𝕄} (v5 v8 v9 v : BitVec 32) : iprop(invs m K ∗ owing c (due 3 c)
      ∗ ticket 3 c ∗ reached ER (recvCell 3 (peer c)) 0 ∗ landing 3 (peer c) ∗ has c (halfSrc 1) (sent m c 1)
      ∗ has c outWin (ownFirst m c) ∗ has c idWin (idIn m c) ∗ bothStacks m c)
    ⊢ iprop((owing c 0 ∗ cred (tallyAt (sendCell 3 c) () (amt 3)) ∗ has c outWin (ownFirst m c) ∗ has c idWin (idIn m c) ∗ bothStacks m c
        -∗ Q (ownBoth m c))
      -∗ runs c (onBufs (k0_part7 (F := F)) c (place c) v5 v8 v9 (k0_pay6 (xIn m c)) v) Q) := by
  simp only [onBufs, k0_part7_eq_skeleton]
  unfold k0_part7_skel bothStacks ownBoth
  simp only [Prog.lift, Prog.bind_op, Prog.bind_ret, Prog.pure_eq_ret]
  iintro ⟨#HI, HO, Ht, Hr, Hl, Hs, Ho, Hid, ⟨Hw1, Hw2⟩⟩ Hk
  iapply (copy_peer m K 3 (dev_eq_peer _ (k0_dev5_eq c)) (src := halfSrc 1) (dst := halfDst 1) (X := sent m c 1) (send_sem 3 rfl) (recv_sem 3 rfl) rfl
    (by unfold leaving; exact BI.Entails.refl _) (by unfold landed; rw [peer_peer])
    (O := 0)) $$ [HO Ht Hr Hl Hs]
  · isplitr; · iexact HI
    isplitl [HO]; · rw [zero_add]; iexact HO
    isplitl [Ht]; · iexact Ht
    isplitl [Hr]; · iexact Hr
    isplitl [Hs]; · iexact Hs
    unfold landing; iexact Hl
  iintro ⟨HO, Hc⟩
  iapply (load_all outWin zero₂) $$ Ho; iintro Ho
  iapply (load_all idWin zero₂) $$ Hid; iintro Hid
  iapply (load_as w₁Buf (w₁ m c 1) rfl) $$ Hw1; iintro Hw1
  iapply (load_as w₂Buf (w₂ m c 1) rfl) $$ Hw2; iintro Hw2
  iapply (load_all outWin zero₂) $$ Ho; iintro Ho
  iapply done
  iapply Hk
  isplitl [HO]; · iexact HO
  isplitl [Hc]; · iexact Hc
  isplitl [Ho]; · iexact Ho
  isplitl [Hid]; · iexact Hid
  isplitl [Hw1]; · iexact Hw1
  iexact Hw2

/-- The eighth part: the device's own rows are written; the first half of its answer has gone and that of the partner's has come. -/
theorem run_part8 {Q : PUnit → sProp 𝕄} (v5 v8 v9 : BitVec 32) : iprop(invs m K ∗ levAts L lv ∗ owing c 0
      ∗ cred (tallyAt (sendCell 2 c) () (amt 2)) ∗ fresh c (.dma (sendS 2))
      ∗ cred (tallyAt (recvCell 2 c) () (amt 2)) ∗ fresh c (.dma (recvS 2))
      ∗ cred (tallyAt (sendCell 3 c) () (amt 3)) ∗ fresh c (.dma (sendS 3))
      ∗ has c outWin (ownFirst m c))
    ⊢ iprop((owing c 0 ∗ spent c (.dma (sendS 2)) ∗ spent c (.dma (recvS 2)) ∗ spent c (.dma (sendS 3))
        ∗ leaving 2 c ∗ landed m 2 c ∗ leaving 3 c ∗ has c outWin (ownBoth m c) -∗ Q ⟨⟩)
      -∗ runs c (onBufs (k0_part8 (F := F)) v5 v8 v9 (ownBoth m c)) Q) := by
  simp only [onBufs, k0_part8_eq_skeleton]
  unfold k0_part8_skel
  simp only [Prog.lift, Prog.bind_op, Prog.bind_ret, Prog.pure_eq_ret]
  iintro ⟨#HI, #Hlev, HO, Hc2, Ha2, Hd2, Hb2, Hc3, Ha3, Ho⟩ Hk
  ihave Ho := (has_held c outWin _) $$ Ho
  iapply (store_all outWin zero₂) $$ Ho; iintro Ho
  iapply (wait_sent m K 2 (O := 0) (above_zero 3) (send_sem 2 rfl) credit_2) $$ [HO Hc2 Ha2]
  · isplitr; · iexact HI
    isplitr; · iexact Hlev
    isplitl [HO]; · iexact HO
    isplitl [Hc2]; · iexact Hc2
    iexact Ha2
  iintro ⟨HO, Ha2, Hl2⟩
  iapply (wait_got m K 2 (O := 0) (above_zero 3) (by decide) (recv_sem 2 rfl) rfl) $$ [HO Hd2 Hb2]
  · isplitr; · iexact HI
    isplitr; · iexact Hlev
    isplitl [HO]; · iexact HO
    isplitl [Hd2]; · iexact Hd2
    iexact Hb2
  iintro ⟨HO, Hb2, Hg2⟩
  iapply (wait_sent m K 3 (O := 0) (above_zero 3) (send_sem 3 rfl) credit_3) $$ [HO Hc3 Ha3]
  · isplitr; · iexact HI
    isplitr; · iexact Hlev
    isplitl [HO]; · iexact HO
    isplitl [Hc3]; · iexact Hc3
    iexact Ha3
  iintro ⟨HO, Ha3, Hl3⟩
  iapply done
  iapply Hk
  isplitl [HO]; · iexact HO
  isplitl [Ha2]; · iexact Ha2
  isplitl [Hb2]; · iexact Hb2
  isplitl [Ha3]; · iexact Ha3
  isplitl [Hl2]; · iexact Hl2
  isplitl [Hg2]; · iexact Hg2
  isplitl [Hl3]; · iexact Hl3
  iexact Ho

end Cert.Moe

end
-- ==== Proof.Body.lean ====
/-
# The run of the kernel's body on one device

What a device holds at the start, what the body leaves, and the run from the one to the other: the eight parts in order,
the last wait, and the sum with the partner's answer.
-/
module

public import proofs.«01_k».proof.Proof.Parts

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : GSem nD τ sig → ℕ) (c : Dev nD)

/-! ## Halves -/

instance elt_nonempty (e : EltTy) : Nonempty (Elt F e) := by
  cases e <;> first | exact ⟨(0#_ : BitVec _)⟩ | exact ⟨Scalar.ofBits _ 0⟩

/-- A buffer of 512 rows, cut in two. -/
theorem cut_rows {X : S512x512.Idx → Elt F .bf16} (a : Memref sig .tc .vmem S512x512 .bf16) :
    (has c a X : sProp 𝕄) ⊢ iprop(has c (a.slice (rows 0) (fun _ => rfl)) (part (rows 0) X)
      ∗ has c (a.slice (rows 1) (fun _ => rfl)) (part (rows 1) X)) := by
  refine (owns_rects (c : Thread nD τ) a fullShare rows (fun _ _ => rfl) rows_disjoint rows_cover X).trans ?_
  rw [bigSep_univ_eq_bigSepL [(0 : Fin 2), 1] (by decide) (by decide)]
  exact BI.Entails.refl _

/-- Two halves make the buffer. -/
theorem join_rows (a : Memref sig .tc .vmem S512x512 .bf16) (Y : Fin 2 → S256x512.Idx → Elt F .bf16) :
    (iprop(has c (a.slice (rows 0) (fun _ => rfl)) (Y 0) ∗ has c (a.slice (rows 1) (fun _ => rfl)) (Y 1)) : sProp 𝕄)
      ⊢ has c a (Rect.glue rows rows_cover Y) := by
  refine BIBase.Entails.trans ?_ (owns_of_rects (c : Thread nD τ) a fullShare rows (fun _ _ => rfl) rows_disjoint rows_cover _)
  rw [bigSep_univ_eq_bigSepL [(0 : Fin 2), 1] (by decide) (by decide)]
  have h (t : Fin 2) : (fun j => Rect.glue rows rows_cover Y ((rows t).emb j)) = Y t :=
    funext fun j => Rect.glue_emb rows rows_cover rows_disjoint _ t j
  show _ ⊢ iprop(owns _ _ _ (fun j => Rect.glue rows rows_cover Y ((rows 0).emb j)) ∗ owns _ _ _ (fun j => Rect.glue rows rows_cover Y ((rows 1).emb j)))
  rw [h 0, h 1]

theorem cut_held (a : Memref sig .tc .vmem S512x512 .bf16) :
    (held c a : sProp 𝕄) ⊢ iprop(held c (a.slice (rows 0) (fun _ => rfl)) ∗ held c (a.slice (rows 1) (fun _ => rfl))) := by
  iintro H
  ihave ⟨%X, H⟩ := (held_has c a) $$ H
  ihave ⟨H0, H1⟩ := (cut_rows c a) $$ H
  isplitl [H0]
  · iapply (has_held c _ _) $$ H0
  · iapply (has_held c _ _) $$ H1

theorem join_held (a : Memref sig .tc .vmem S512x512 .bf16) :
    (iprop(held c (a.slice (rows 0) (fun _ => rfl)) ∗ held c (a.slice (rows 1) (fun _ => rfl))) : sProp 𝕄) ⊢ held c a := by
  iintro ⟨H0, H1⟩
  ihave ⟨%X, H0⟩ := (held_has c _) $$ H0
  ihave ⟨%Y, H1⟩ := (held_has c _) $$ H1
  iapply (has_held c a _)
  iapply (join_rows c a (fun | 0 => X | 1 => Y))
  isplitl [H0]; · iexact H0
  iexact H1

/-! ## The end of the body -/

/-- The end: the partner's second half has come, and the two partial results are added. -/
theorem run_end {Q : PUnit → sProp 𝕄} : iprop(invs m K ∗ levAts L lv ∗ owing c 0
      ∗ cred (tallyAt (recvCell 3 c) () (amt 3)) ∗ fresh c (.dma (recvS 3)) ∗ landed m 2 c ∗ has c outWin (ownBoth m c))
    ⊢ iprop((owing c 0 ∗ spent c (.dma (recvS 3)) ∗ has c ansDst (answer m c) ∗ has c outWin (result m c) -∗ |={Set.univ}=> Q ⟨⟩)
      -∗ runs c (onBufs fun a0 h0 a1 h1 a2 h2 a3 h3 a4 h4 a5 h5 a6 h6 a7 h7 a8 h8 a9 h9 a10 h10 a11 h11 a12 h12 s13 s14 => (do
        Prog.lift (.waitDma2 ((s14.slice (Rect.unit (s := S4) ![3] S1.size inb_S4_S1_3)).squeeze S_ squeezes_S1_S_).sem
          (a9.slice (Rect.unit (s := S512x512) ![256, 0] S256x512.size inb_S512x512_S256x512_256_0) (fun _ => rfl))
          (a10.slice (Rect.unit (s := S512x512) ![256, 0] S256x512.size inb_S512x512_S256x512_256_0) (fun _ => rfl))
          (h9.wordExact_slice rfl _ wordsbf16_S512x512_S256x512_256_0) (h10.wordExact_slice rfl _ wordsbf16_S512x512_S256x512_256_0))
        let v256 : Vec F S512x512 .f32 ← Prog.lift (.load a4 (Rect.unit (s := S512x512) ![0, 0] S512x512.size inb_S512x512_S512x512_0_0).toLoadRect (View.loadsAt_vmem h_S512x512))
        let v258 : Vec F S512x512 .bf16 ← Prog.lift (.load a10 (Rect.unit (s := S512x512) ![0, 0] S512x512.size inb_S512x512_S512x512_0_0).toLoadRect (View.loadsAt_vmem h_S512x512))
        let _ : Vec F S512x512 .f32 ← Prog.lift (.load a4 (Rect.unit (s := S512x512) ![0, 0] S512x512.size inb_S512x512_S512x512_0_0).toLoadRect (View.loadsAt_vmem h_S512x512))
        Prog.lift (.store a4 (Rect.unit (s := S512x512) ![0, 0] S512x512.size inb_S512x512_S512x512_0_0) (k0_pay1 v256 v258) Finset.univ (View.stores_vmem_bits_univ h_S512x512 rfl) (.inl rfl))
        pure ⟨⟩ : Prog (TpuEff nD τ sig (Elt F) Λ₀ .tc) PUnit)) Q) := by
  simp only [onBufs, Prog.lift, Prog.bind_op, Prog.bind_ret, Prog.pure_eq_ret]
  unfold result
  iintro ⟨#HI, #Hlev, HO, Hc, Ha, Hg2, Ho⟩ Hk
  iapply (wait_got m K 3 (O := 0) (above_zero 3) (by decide) (recv_sem 3 rfl) rfl) $$ [HO Hc Ha]
  · isplitr; · iexact HI
    isplitr; · iexact Hlev
    isplitl [HO]; · iexact HO
    isplitl [Hc]; · iexact Hc
    iexact Ha
  iintro ⟨HO, Ha, Hg3⟩
  unfold landed
  ihave Hans := (join_rows c ansDst (fun h => sent m (peer c) h)) $$ [Hg2 Hg3]
  · isplitl [Hg2]; · iexact Hg2
    iexact Hg3
  iapply (load_all outWin zero₂) $$ Ho; iintro Ho
  iapply (load_all ansDst zero₂) $$ Hans; iintro Hans
  iapply (load_all outWin zero₂) $$ Ho; iintro Ho
  ihave Ho := (has_held c outWin _) $$ Ho
  iapply (store_all outWin zero₂) $$ Ho; iintro Ho
  iapply done_upd
  iapply Hk
  isplitl [HO]; · iexact HO
  isplitl [Ha]; · iexact Ha
  isplitl [Hans]; · unfold answer; iexact Hans
  unfold answer; iexact Ho

/-! ## The whole body -/

/-- What a device may do: signal and wait on the barrier, make its four copies, wait for their ends and for its partner's. -/
def rights : sProp 𝕄 :=
  iprop(dutyTok ER (barCell (peer c)) 0 () ∗ reached ER (barCell (peer c)) 0
    ∗ cred (tallyAt (barCell c) () 1) ∗ fresh c (.reg barS)
    ∗ four (fun k => ticket k c) ∗ four (fun k => fresh c (.dma (sendS k)))
    ∗ four (fun k => iprop(cred (tallyAt (recvCell k c) () (amt k)) ∗ fresh c (.dma (recvS k))))
    ∗ four (fun k => reached ER (recvCell k c) 0))

/-- All the scratch buffers, at contents not chosen. -/
def scratch : sProp 𝕄 :=
  iprop(held c xSrc ∗ held c xDst ∗ held c idSrc ∗ held c idDst ∗ held c ansSrc ∗ held c ansDst ∗ held c w₁Buf ∗ held c w₂Buf)

/-- The four input windows, at the blocks of the launch memory. -/
def inputs : sProp 𝕄 :=
  iprop(has c xWin (xIn m c) ∗ has c idWin (idIn m c) ∗ has c w₁Win (w₁In m c) ∗ has c w₂Win (w₂In m c))

/-- All the device's semaphores at zero. -/
def quiet : sProp 𝕄 :=
  iprop(semVal (barCell c) 0 ∗ four (fun k => semVal (sendCell k c) 0) ∗ four (fun k => semVal (recvCell k c) 0))

theorem close_bar : iprop(invs m K ∗ spent c (.reg barS)) ⊢ (iprop(|={Set.univ}=> semVal (barCell c) 0) : sProp 𝕄) := by
  iintro ⟨#HI, H⟩
  iapply (Rounds.cell_close ER (sched m) (Set.mem_univ (K (barCell c))) id (duties_later _))
  isplitr; · iapply (inv_bar m K c); iexact HI
  iexact H

theorem close_copy (k : Fin 4) : iprop(invs m K ∗ spent c (.dma (sendS k)) ∗ spent c (.dma (recvS k)))
    ⊢ (iprop(|={Set.univ}=> (semVal (sendCell k c) 0 ∗ semVal (recvCell k c) 0)) : sProp 𝕄) := by
  iintro ⟨#HI, H, H'⟩
  imod (Rounds.cell_close ER (sched m) (Set.mem_univ (K (sendCell k c))) id (duties_later _)) $$ [H] with Hs
  · isplitr; · iapply (inv_send m K k c); iexact HI
    iexact H
  imod (Rounds.cell_close ER (sched m) (Set.mem_univ (K (recvCell k c))) id (duties_later _)) $$ [H'] with Hr
  · isplitr; · iapply (inv_recv m K k c); iexact HI
    iexact H'
  imodintro
  isplitl [Hs]; · iexact Hs
  iexact Hr

set_option maxHeartbeats 1000000 in
/-- The body turns the device's blocks into its rows of the result, and leaves every semaphore at zero. -/
theorem run_body {Q : PUnit → sProp 𝕄} :
    iprop(invs m K ∗ levAts L lv ∗ owing c (owed₀ c) ∗ rights c ∗ inputs m c ∗ held c outWin ∗ scratch c)
    ⊢ iprop((owing c 0 ∗ quiet c ∗ inputs m c ∗ has c outWin (result m c) ∗ scratch c -∗ Q ⟨⟩)
      -∗ runs c (onBufs (cc0_body (F := F))) Q) := by
  simp only [cc0_body_eq_skeleton]
  unfold rights inputs scratch quiet
  iintro ⟨#HI, #Hlev, HO, ⟨Htb, Hrb, Hcb, Hab, ⟨Ht0, Ht1, Ht2, Ht3⟩, ⟨Hs0, Hs1, Hs2, Hs3⟩, ⟨⟨Hd0, Hv0⟩, ⟨Hd1, Hv1⟩, ⟨Hd2, Hv2⟩, ⟨Hd3, Hv3⟩⟩, Hrr⟩, ⟨Hx, Hid, Hw1, Hw2⟩, Ho, ⟨Hxs, Hxd, Hids, Hidd, Has, Had, Hb1, Hb2⟩⟩ Hk
  ihave ⟨Hd20, Hd31⟩ := (cut_held c ansDst) $$ Had
  ihave ⟨Hs20, Hs31⟩ := (cut_held c ansSrc) $$ Has
  unfold onBufs cc0_body_skel runs
  rw [wp_bind]
  iapply (run_part1 m K c) $$ [HO Htb Hrb Hxd Hidd Hd20 Hd31 Hrr Hcb Hab Hx Hid Hxs Hids]
  · isplitr; · iexact HI
    isplitr; · iexact Hlev
    isplitl [HO]; · iexact HO
    isplitl [Htb]; · iexact Htb
    isplitl [Hrb]; · iexact Hrb
    isplitl [Hxd Hidd Hd20 Hd31]
    · unfold landing
      isplitl [Hxd]; · iexact Hxd
      isplitl [Hidd]; · iexact Hidd
      isplitl [Hd20]; · iexact Hd20
      iexact Hd31
    isplitl [Hrr]; · iexact Hrr
    isplitl [Hcb]; · iexact Hcb
    isplitl [Hab]; · iexact Hab
    isplitl [Hx]; · iexact Hx
    isplitl [Hid]; · iexact Hid
    isplitl [Hxs]; · iexact Hxs
    iexact Hids
  iintro %v5 %v8 %v9 %v28 ⟨HO, Hab, Hrd, Hx, Hid, Hxs, Hids⟩
  unfold ready
  icases Hrd with ⟨⟨Hp0, Hp1, Hp2, Hp3⟩, ⟨Hq0, Hq1, Hq2, Hq3⟩⟩
  try dsimp only
  rw [wp_bind]
  iapply (run_part2 m K c v5 v8 v9 v28) $$ [HO Ht0 Ht1 Hq0 Hq1 Hp0 Hp1 Hxs Hids Hx Hid Hw1 Hw2 Hb1 Hb2]
  · isplitr; · iexact HI
    isplitl [HO]; · iexact HO
    isplitl [Ht0]; · iexact Ht0
    isplitl [Ht1]; · iexact Ht1
    isplitl [Hq0]; · iexact Hq0
    isplitl [Hq1]; · iexact Hq1
    isplitl [Hp0]; · iexact Hp0
    isplitl [Hp1]; · iexact Hp1
    isplitl [Hxs]; · iexact Hxs
    isplitl [Hids]; · iexact Hids
    isplitl [Hx]; · iexact Hx
    isplitl [Hid]; · iexact Hid
    isplitl [Hw1]; · iexact Hw1
    isplitl [Hw2]; · iexact Hw2
    isplitl [Hb1]; · iexact Hb1
    iexact Hb2
  iintro ⟨HO, Hc0, Hc1, Hx, Hid, Hw1, Hw2, Hst⟩
  try dsimp only
  rw [wp_bind]
  iapply (run_part3 m K c v5 v8 v9) $$ [HO Hc0 Hs0 Hd0 Hv0 Hc1 Hs1 Hst Ho]
  · isplitr; · iexact HI
    isplitr; · iexact Hlev
    isplitl [HO]; · iexact HO
    isplitl [Hc0]; · iexact Hc0
    isplitl [Hs0]; · iexact Hs0
    isplitl [Hd0]; · iexact Hd0
    isplitl [Hv0]; · iexact Hv0
    isplitl [Hc1]; · iexact Hc1
    isplitl [Hs1]; · iexact Hs1
    isplitl [Hst]; · iexact Hst
    iexact Ho
  iintro ⟨HO, Hs0, Hv0, Hs1, Hl0, Hg0, Hl1, Hst, Ho⟩
  try dsimp only
  rw [wp_bind]
  iapply (run_part4 m K c v5 v8 v9) $$ [HO Hd1 Hv1 Hg0 Hst]
  · isplitr; · iexact HI
    isplitr; · iexact Hlev
    isplitl [HO]; · iexact HO
    isplitl [Hd1]; · iexact Hd1
    isplitl [Hv1]; · iexact Hv1
    isplitl [Hg0]; · iexact Hg0
    iexact Hst
  iintro ⟨HO, Hv1, Hg0, Hg1, Hst⟩
  try dsimp only
  rw [wp_bind]
  iapply (run_part5 m K c v5 v8 v9) $$ [HO Ht2 Hq2 Hp2 Hs20 Hg0 Hg1 Hst]
  · isplitr; · iexact HI
    isplitl [HO]; · iexact HO
    isplitl [Ht2]; · iexact Ht2
    isplitl [Hq2]; · iexact Hq2
    isplitl [Hp2]; · iexact Hp2
    isplitl [Hs20]; · iexact Hs20
    isplitl [Hg0]; · iexact Hg0
    isplitl [Hg1]; · iexact Hg1
    iexact Hst
  iintro ⟨HO, Hc2, Hg0, Hg1, Hst⟩
  try dsimp only
  rw [wp_bind]
  iapply (run_part6 m c) $$ [Hs31 Hst]
  · isplitl [Hs31]; · iexact Hs31
    iexact Hst
  iintro %v ⟨Hs31, Hst⟩
  try dsimp only
  rw [wp_bind]
  iapply (run_part7 m K c v5 v8 v9 v) $$ [HO Ht3 Hq3 Hp3 Hs31 Ho Hid Hst]
  · isplitr; · iexact HI
    isplitl [HO]; · iexact HO
    isplitl [Ht3]; · iexact Ht3
    isplitl [Hq3]; · iexact Hq3
    isplitl [Hp3]; · iexact Hp3
    isplitl [Hs31]; · iexact Hs31
    isplitl [Ho]; · iexact Ho
    isplitl [Hid]; · iexact Hid
    iexact Hst
  iintro ⟨HO, Hc3, Ho, Hid, Hst⟩
  try dsimp only
  rw [wp_bind]
  iapply (run_part8 m K c v5 v8 v9) $$ [HO Hc2 Hs2 Hd2 Hv2 Hc3 Hs3 Ho]
  · isplitr; · iexact HI
    isplitr; · iexact Hlev
    isplitl [HO]; · iexact HO
    isplitl [Hc2]; · iexact Hc2
    isplitl [Hs2]; · iexact Hs2
    isplitl [Hd2]; · iexact Hd2
    isplitl [Hv2]; · iexact Hv2
    isplitl [Hc3]; · iexact Hc3
    isplitl [Hs3]; · iexact Hs3
    iexact Ho
  iintro ⟨HO, Hs2, Hv2, Hs3, Hl2, Hg2, Hl3, Ho⟩
  iapply (run_end m K c) $$ [HO Hd3 Hv3 Hg2 Ho]
  · isplitr; · iexact HI
    isplitr; · iexact Hlev
    isplitl [HO]; · iexact HO
    isplitl [Hd3]; · iexact Hd3
    isplitl [Hv3]; · iexact Hv3
    isplitl [Hg2]; · iexact Hg2
    iexact Ho
  iintro ⟨HO, Hv3, Had, Ho⟩
  unfold landed leaving bothStacks
  icases Hst with ⟨Hb1, Hb2⟩
  imod (close_bar m K c) $$ [Hab] with Hab
  · isplitr; · iexact HI
    iexact Hab
  imod (close_copy m K c 0) $$ [Hs0 Hv0] with ⟨Hs0, Hv0⟩
  · isplitr; · iexact HI
    isplitl [Hs0]; · iexact Hs0
    iexact Hv0
  imod (close_copy m K c 1) $$ [Hs1 Hv1] with ⟨Hs1, Hv1⟩
  · isplitr; · iexact HI
    isplitl [Hs1]; · iexact Hs1
    iexact Hv1
  imod (close_copy m K c 2) $$ [Hs2 Hv2] with ⟨Hs2, Hv2⟩
  · isplitr; · iexact HI
    isplitl [Hs2]; · iexact Hs2
    iexact Hv2
  imod (close_copy m K c 3) $$ [Hs3 Hv3] with ⟨Hs3, Hv3⟩
  · isplitr; · iexact HI
    isplitl [Hs3]; · iexact Hs3
    iexact Hv3
  imodintro
  iapply Hk
  isplitl [HO]; · iexact HO
  isplitl [Hab Hs0 Hs1 Hs2 Hs3 Hv0 Hv1 Hv2 Hv3]
  · isplitl [Hab]; · iexact Hab
    isplitl [Hs0 Hs1 Hs2 Hs3]
    · isplitl [Hs0]; · iexact Hs0
      isplitl [Hs1]; · iexact Hs1
      isplitl [Hs2]; · iexact Hs2
      iexact Hs3
    isplitl [Hv0]; · iexact Hv0
    isplitl [Hv1]; · iexact Hv1
    isplitl [Hv2]; · iexact Hv2
    iexact Hv3
  isplitl [Hx Hid Hw1 Hw2]
  · isplitl [Hx]; · iexact Hx
    isplitl [Hid]; · iexact Hid
    isplitl [Hw1]; · iexact Hw1
    iexact Hw2
  isplitl [Ho]; · iexact Ho
  isplitl [Hl0]; · iexact Hl0
  isplitl [Hg0]; · iapply (has_held c xDst _) $$ Hg0
  isplitl [Hl1]; · iexact Hl1
  isplitl [Hg1]; · iapply (has_held c idDst _) $$ Hg1
  isplitl [Hl2 Hl3]
  · iapply (join_held c ansSrc)
    isplitl [Hl2]; · iexact Hl2
    iexact Hl3
  isplitl [Had]; · iapply (has_held c ansDst _) $$ Had
  isplitl [Hb1]; · iapply (has_held c w₁Buf _) $$ Hb1
  iapply (has_held c w₂Buf _) $$ Hb2

end Cert.Moe

end
-- ==== Proof.Region.lean ====
/-
# The kernel's region on one device

The pipeline stages the device's blocks, the body runs once, and the result is written back. This module states what the
region is entered with and what it leaves, and makes it a segment of the program.
-/
module

public import proofs.«01_k».proof.Proof.Body
public import Idealize.ShloMosaic.Lib.Pipeline.RegionTalk
public import Idealize.ShloMosaic.Lib.Pipeline.Value

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (c : Dev nD)

/-! ## The buffers of the program -/

/-- The buffers that live outside the region. -/
def bufs : Finset (DevRef τ sig) := (StableHlo.tcRefs τ sig).filter fun b => ¬ b.isScoped

/-- The arrays the region stages, and the other buffers. -/
abbrev arrs : Finset (DevRef τ sig) := Pipeline.arrRefs (τ := τ) spec0
abbrev others : Finset (DevRef τ sig) := bufs \ arrs

theorem arrs_sub : arrs ⊆ bufs := by decide

theorem unscopedBufs_held (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

/-- What the device's buffers hold at launch, -/
abbrev atLaunch : Valuation τ sig (Elt F) := fun b => m (c, b)
/-- when the region is entered, -/
abbrev onEntry : Valuation τ sig (Elt F) := StableHlo.after hostOps0 (atLaunch m c)
/-- and when it is left. -/
abbrev onExit : Valuation τ sig (Elt F) := Function.update (onEntry m c) (Proc.devRef .tc main_v2) (result m c)

theorem onExit_out : onExit m c main_v2 = result m c := Function.update_self ..
theorem onExit_ne (b : DevRef τ sig) (h : b ≠ Proc.devRef .tc main_v2) : onExit m c b = onEntry m c b :=
  Function.update_of_ne h ..

/-! ## The region's data -/

/-- What the body starts with, beside its buffers. -/
def ready₀ : sProp 𝕄 := iprop((∃ K, invs m K) ∗ levAts L lv ∗ rights c)

/-- The arrays as they stand; the blocks before and after the body; the talk between devices, begun and ended. -/
def dat : Dat τ (Elt F) Unit ℕ UU ℕ cfg0 c where
  A w := V m c (Pipeline.arrRef spec0 w)
  after w _ := match w with
    | ⟨0, _⟩ => xIn m c
    | ⟨1, _⟩ => idIn m c
    | ⟨2, _⟩ => w₁In m c
    | ⟨3, _⟩ => w₂In m c
    | ⟨4, _⟩ => result m c
  Φ t := if t.val = 0 then iprop(ready₀ m c ∗ scratch c ∗ ∃ r, prngReg c r) else iprop(quiet c ∗ scratch c ∗ ∃ r, prngReg c r)
  q _ := fullShare
  owed t := if t.val = 0 then owed₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

theorem owed_at (t : Fin (cfg0.N + 1)) : (dat m c).owed t = if t.val = 0 then owed₀ c else 0 := rfl
theorem owed_first : (dat m c).owed t0_0.castSucc = owed₀ c := (owed_at m c _).trans (if_pos rfl)
theorem owed_last : (dat m c).owed t0_0.succ = 0 := (owed_at m c _).trans (if_neg (Nat.succ_ne_zero _))
theorem owed_end : (dat m c).owed (Fin.last _) = 0 :=
  (owed_at m c _).trans (if_neg (by rw [Fin.val_last, show cfg0.N = 1 from N_0]; decide))

theorem owesAt_intro (t : Fin (cfg0.N + 1)) {O : CellTallies nD τ sig Unit} (h : (dat m c).owed t = O) :
    (owing c O : sProp 𝕄) ⊢ (dat m c).owesAt () t := by
  subst h
  iintro ⟨%W, HO⟩
  unfold Dat.owesAt Pipeline.owesWithin
  iexists W
  isplitr; · ipureintro; exact fun _ _ => Or.inl trivial
  iexact HO

theorem owesAt_elim (t : Fin (cfg0.N + 1)) {O : CellTallies nD τ sig Unit} (h : (dat m c).owed t = O) :
    ((dat m c).owesAt () t : sProp 𝕄) ⊢ owing c O := by
  subst h
  unfold Dat.owesAt Pipeline.owesWithin
  iintro ⟨%W, -, HO⟩
  iexists W; iexact HO

/-! ## The body as the pipeline runs it -/

theorem found_x (d) : (dat m c).before 0 t0_0 d = xIn m c := by unfold Dat.before; rw [if_pos (fetch0_0 _)]; rfl
theorem found_id (d) : (dat m c).before 1 t0_0 d = idIn m c := by unfold Dat.before; rw [if_pos (fetch0_1 _)]; rfl
theorem found_w₁ (d) : (dat m c).before 2 t0_0 d = w₁In m c := by unfold Dat.before; rw [if_pos (fetch0_2 _)]; rfl
theorem found_w₂ (d) : (dat m c).before 3 t0_0 d = w₂In m c := by unfold Dat.before; rw [if_pos (fetch0_3 _)]; rfl

theorem body : BodyObligation (dat m c) (defs₀ (F := F)) 𝒱₀ () Set.univ := fun t => by
  obtain rfl := fin_N0 t
  rw [bigSep_W0, bigSep_W0]
  rw [show (dat m c).Φ t0_0.castSucc = iprop(ready₀ m c ∗ scratch c ∗ ∃ r, prngReg c r) from rfl,
    show (dat m c).Φ t0_0.succ = iprop(quiet c ∗ scratch c ∗ ∃ r, prngReg c r) from rfl]
  unfold ready₀
  iintro ⟨⟨⟨⟨%K, HI⟩, Hlev, Hr⟩, Hs, Hp⟩, HO, ⟨%d0, H0⟩, ⟨%d1, H1⟩, ⟨%d2, H2⟩, ⟨%d3, H3⟩, ⟨%d4, H4⟩⟩
  rw [found_x, found_id, found_w₁, found_w₂]
  ihave HO := (owesAt_elim m c _ (owed_first m c)) $$ HO
  iapply (run_body m K c) $$ [HI Hlev HO Hr H0 H1 H2 H3 H4 Hs]
  · isplitl [HI]; · iexact HI
    isplitl [Hlev]; · iexact Hlev
    isplitl [HO]; · iexact HO
    isplitl [Hr]; · iexact Hr
    isplitl [H0 H1 H2 H3]
    · unfold inputs
      isplitl [H0]; · iexact H0
      isplitl [H1]; · iexact H1
      isplitl [H2]; · iexact H2
      iexact H3
    isplitl [H4]; · iapply (has_held c outWin _) $$ H4
    iexact Hs
  unfold inputs
  iintro ⟨HO, Hq, ⟨H0, H1, H2, H3⟩, H4, Hs⟩
  isplitl [Hq Hs Hp]
  · isplitl [Hq]; · iexact Hq
    isplitl [Hs]; · iexact Hs
    iexact Hp
  isplitl [HO]; · iapply (owesAt_intro m c _ (owed_last m c)) $$ HO
  isplitl [H0]; · iexact H0
  isplitl [H1]; · iexact H1
  isplitl [H2]; · iexact H2
  isplitl [H3]; · iexact H3
  iexact H4

/-! ## The arrays after the region -/

theorem kept (w : Fin 5) (h : (cfg0.win w).isOut = false) (n : Nat) : (dat m c).arrAt w n = V m c (Pipeline.arrRef spec0 w) :=
  (dat m c).arrAt_in w h n

/-- The region's only block is the whole array. -/
theorem block_out (f : Vec F S512x512 .f32) : ((cfg0.win 4).blk t0_0).view.read (Elt F) f = f :=
  Memref.read_access_unit_zero (Elt F) main_v2 (funext fun _ => Nat.zero_mul _) _ f

theorem written : (dat m c).arrAt 4 cfg0.N = result m c :=
  (dat m c).arrAt_eq_of_cover 4 (result m c)
    (fun t _ => by obtain rfl := fin_N0 t; exact (block_out (result m c)).symm)
    fun i => ⟨t0_0, flush0_4 _, by
      show i ∈ ((View.whole main_v2).slice (win0_4.rect t0_0)).set
      rw [View.set_slice_whole, Rect.mem_set_unit]
      exact fun a => ⟨(Nat.zero_mul _).trans_le (Nat.zero_le _), (i a).isLt.trans_le (Nat.le_add_left _ _)⟩⟩

end Cert.Moe

end
-- ==== Proof.Launch.lean ====
/-
# What each device is given at launch

Every semaphore of the talk gets its invariant. The barrier's is open from the start; those of the copies lie dormant until
the region is entered, when the device opens its own. Each device gets the tokens of the payments it makes, and credit for
what its partner owes it.
-/
module

public import proofs.«01_k».proof.Proof.Region

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores of the talk, listed -/

/-- The two ends of copy `k`. -/
def ends : Fin 2 × Fin 4 → SemLoc sig
  | (0, k) => .dma (sendS k)
  | (1, k) => .dma (recvS k)

theorem ends_inj : Function.Injective ends := by decide
theorem ends_own : Pipeline.OwnSemFacts spec0 ends := by decide

def barEmb : Dev nD ↪ GSem nD τ sig := ⟨barCell, fun _ _ h => congrArg (fun g : GSem nD τ sig => g.1.1) h⟩
def endEmb : Dev nD × Fin 2 × Fin 4 ↪ GSem nD τ sig :=
  ⟨fun x => ((x.1 : Thread nD τ), ends x.2), fun _ _ h =>
    Prod.ext (congrArg (fun g : GSem nD τ sig => g.1.1) h) (ends_inj (congrArg Prod.snd h))⟩
def tokEmb : GSem nD τ sig ↪ GSem nD τ sig × ℕ × Unit := ⟨fun g => (g, 0, ()), fun _ _ h => congrArg Prod.fst h⟩

abbrev barCells : Finset (GSem nD τ sig) := Finset.univ.map barEmb
abbrev endCells : Finset (GSem nD τ sig) := Finset.univ.map endEmb
/-- One payment on each. -/
def toks : Finset (GSem nD τ sig × ℕ × Unit) := (barCells ∪ endCells).map tokEmb

theorem disjoint_cells : Disjoint barCells endCells := by
  rw [Finset.disjoint_left]
  rintro g h₁ h₂
  obtain ⟨c, -, rfl⟩ := Finset.mem_map.mp h₁
  obtain ⟨⟨d, h, k⟩, -, e⟩ := Finset.mem_map.mp h₂
  have : ends (h, k) = .reg barS := congrArg Prod.snd e
  clear e; revert h k; decide

theorem over_bars (Φ : GSem nD τ sig → sProp 𝕄) : bigSep barCells Φ = bigSep Finset.univ fun c => Φ (barCell c) :=
  bigSep_map barEmb

/-- A statement on the two ends of the four copies of one device. -/
theorem over_ends (Ψ : Fin 2 × Fin 4 → sProp 𝕄) :
    bigSep Finset.univ Ψ = iprop(four (fun k => Ψ (0, k)) ∗ four (fun k => Ψ (1, k))) := by
  rw [bigSep_univ_prod, BI.bigSep_fin_two, bigSep_four, bigSep_four]; rfl

theorem over_endCells (Φ : GSem nD τ sig → sProp 𝕄) : bigSep endCells Φ = bigSep Finset.univ fun c =>
    iprop(four (fun k => Φ (sendCell k c)) ∗ four (fun k => Φ (recvCell k c))) := by
  rw [bigSep_map, bigSep_univ_prod]
  exact bigSep_congr fun c _ => over_ends fun x => Φ (endEmb (c, x))

theorem over_cells (Φ : GSem nD τ sig → sProp 𝕄) : bigSep (barCells ∪ endCells) Φ = bigSep Finset.univ fun c =>
    iprop(Φ (barCell c) ∗ four (fun k => Φ (sendCell k c)) ∗ four (fun k => Φ (recvCell k c))) := by
  rw [BI.bigSep_union disjoint_cells, over_bars, over_endCells]
  exact (bigSep_sep' Finset.univ _ _).symm

/-! ## What a device carries to the region -/

/-- What everyone may consult: the invariants, and that the barriers are open. -/
def records (K : GSem nD τ sig → ℕ) : sProp 𝕄 :=
  iprop(invs m K ∗ bigSep Finset.univ fun c => reached ER (barCell c) 0)

instance records_persistent (K : GSem nD τ sig → ℕ) : BI.Persistent (records m K) := by unfold records; infer_instance

/-- The tokens of the payments that device `c` makes. -/
def payments (c : Dev nD) : sProp 𝕄 :=
  iprop(dutyTok ER (barCell (peer c)) 0 () ∗ four (fun k => dutyTok ER (sendCell k c) 0 ())
    ∗ four (fun k => dutyTok ER (recvCell k (peer c)) 0 ()))

/-- The credit for what the partner owes device `c`. -/
def credits (c : Dev nD) : sProp 𝕄 :=
  iprop(cred (tallyAt (barCell c) () 1) ∗ four (fun k => cred (tallyAt (recvCell k c) () (amt k))))

/-- Its place on its barrier, and the right to open its ends of the copies. -/
def places (c : Dev nD) : sProp 𝕄 :=
  iprop(fresh c (.reg barS) ∗ four (fun k => openTok ER (sendCell k c)) ∗ four (fun k => openTok ER (recvCell k c)))

def carried (c : Dev nD) : sProp 𝕄 := iprop((∃ K, records m K) ∗ payments c ∗ credits c ∗ places c)

theorem ownSems (c : Dev nD) : (Pipeline.ownSems0 ends c : sProp 𝕄)
    = iprop(four (fun k => semVal (sendCell k c) 0) ∗ four (fun k => semVal (recvCell k c) 0)) :=
  over_ends fun x => semVal ((c : Thread nD τ), ends x) 0

/-- A device opens its two ends of copy `k`. -/
theorem open_copy (K : GSem nD τ sig → ℕ) (c : Dev nD) (k : Fin 4) :
    iprop(invs m K ∗ openTok ER (sendCell k c) ∗ openTok ER (recvCell k c) ∗ semVal (sendCell k c) 0 ∗ semVal (recvCell k c) 0)
    ⊢ (iprop(|={Set.univ}=> ((fresh c (.dma (sendS k)) ∗ reached ER (sendCell k c) 0)
        ∗ (fresh c (.dma (recvS k)) ∗ reached ER (recvCell k c) 0))) : sProp 𝕄) := by
  iintro ⟨#HI, Hs, Hr, Zs, Zr⟩
  imod (Rounds.cell_open ER (sched m) (g := sendCell k c) (Set.mem_univ (K (sendCell k c)))) $$ [Hs Zs] with ⟨Hs, Rs⟩
  · isplitr; · iapply (inv_send m K k c); iexact HI
    isplitl [Hs]; · iexact Hs
    iexact Zs
  imod (Rounds.cell_open ER (sched m) (g := recvCell k c) (Set.mem_univ (K (recvCell k c)))) $$ [Hr Zr] with ⟨Hr, Rr⟩
  · isplitr; · iapply (inv_recv m K k c); iexact HI
    isplitl [Hr]; · iexact Hr
    iexact Zr
  imodintro
  isplitl [Hs Rs]
  · isplitl [Hs]; · iexact Hs
    iexact Rs
  isplitl [Hr]; · iexact Hr
  iexact Rr

/-- Entering the region, a device opens its ends of the four copies, and is ready for the body. -/
theorem opening (c : Dev nD) :
    iprop(carried m c ∗ Pipeline.ownSems0 ends c ∗ levAts L lv) ⊢ (iprop(|={Set.univ}=> ready₀ m c) : sProp 𝕄) := by
  rw [ownSems]
  unfold carried records payments credits places ready₀ rights ticket
  iintro ⟨⟨⟨%K, #HI, #HB⟩, ⟨Tb, ⟨S0, S1, S2, S3⟩, ⟨R0, R1, R2, R3⟩⟩, ⟨Cb, ⟨C0, C1, C2, C3⟩⟩, ⟨Pb, ⟨O0, O1, O2, O3⟩, ⟨Q0, Q1, Q2, Q3⟩⟩⟩,
    ⟨⟨Y0, Y1, Y2, Y3⟩, ⟨Z0, Z1, Z2, Z3⟩⟩, #Hlev⟩
  imod (open_copy m K c 0) $$ [O0 Q0 Y0 Z0] with ⟨⟨Fs0, Es0⟩, ⟨Fr0, Er0⟩⟩
  · isplitr; · iexact HI
    isplitl [O0]; · iexact O0
    isplitl [Q0]; · iexact Q0
    isplitl [Y0]; · iexact Y0
    iexact Z0
  imod (open_copy m K c 1) $$ [O1 Q1 Y1 Z1] with ⟨⟨Fs1, Es1⟩, ⟨Fr1, Er1⟩⟩
  · isplitr; · iexact HI
    isplitl [O1]; · iexact O1
    isplitl [Q1]; · iexact Q1
    isplitl [Y1]; · iexact Y1
    iexact Z1
  imod (open_copy m K c 2) $$ [O2 Q2 Y2 Z2] with ⟨⟨Fs2, Es2⟩, ⟨Fr2, Er2⟩⟩
  · isplitr; · iexact HI
    isplitl [O2]; · iexact O2
    isplitl [Q2]; · iexact Q2
    isplitl [Y2]; · iexact Y2
    iexact Z2
  imod (open_copy m K c 3) $$ [O3 Q3 Y3 Z3] with ⟨⟨Fs3, Es3⟩, ⟨Fr3, Er3⟩⟩
  · isplitr; · iexact HI
    isplitl [O3]; · iexact O3
    isplitl [Q3]; · iexact Q3
    isplitl [Y3]; · iexact Y3
    iexact Z3
  imodintro
  isplitr; · iexists K; iexact HI
  isplitr; · iexact Hlev
  isplitl [Tb]; · iexact Tb
  isplitr
  · iapply (show (bigSep Finset.univ fun c => reached ER (barCell c) 0) ⊢ (reached ER (barCell (peer c)) 0 : sProp 𝕄) from
      bigSep_elim (Finset.mem_univ (peer c)))
    iexact HB
  isplitl [Cb]; · iexact Cb
  isplitl [Pb]; · iexact Pb
  isplitl [S0 S1 S2 S3 Es0 Es1 Es2 Es3 R0 R1 R2 R3]
  · isplitl [S0 Es0 R0]
    · isplitl [S0]; · iexact S0
      isplitl [Es0]; · iexact Es0
      iexact R0
    isplitl [S1 Es1 R1]
    · isplitl [S1]; · iexact S1
      isplitl [Es1]; · iexact Es1
      iexact R1
    isplitl [S2 Es2 R2]
    · isplitl [S2]; · iexact S2
      isplitl [Es2]; · iexact Es2
      iexact R2
    isplitl [S3]; · iexact S3
    isplitl [Es3]; · iexact Es3
    iexact R3
  isplitl [Fs0 Fs1 Fs2 Fs3]
  · isplitl [Fs0]; · iexact Fs0
    isplitl [Fs1]; · iexact Fs1
    isplitl [Fs2]; · iexact Fs2
    iexact Fs3
  isplitl [C0 C1 C2 C3 Fr0 Fr1 Fr2 Fr3]
  · isplitl [C0 Fr0]
    · isplitl [C0]; · iexact C0
      iexact Fr0
    isplitl [C1 Fr1]
    · isplitl [C1]; · iexact C1
      iexact Fr1
    isplitl [C2 Fr2]
    · isplitl [C2]; · iexact C2
      iexact Fr2
    isplitl [C3]; · iexact C3
    iexact Fr3
  isplitl [Er0]; · iexact Er0
  isplitl [Er1]; · iexact Er1
  isplitl [Er2]; · iexact Er2
  iexact Er3

/-! ## The tokens and the credit, dealt -/

theorem split_three (A B C : Dev nD → sProp 𝕄) : bigSep Finset.univ (fun c => iprop(A c ∗ B c ∗ C c))
    = iprop(bigSep Finset.univ A ∗ bigSep Finset.univ B ∗ bigSep Finset.univ C) := by
  rw [bigSep_sep', bigSep_sep']

/-- Each token goes to the device that makes the payment. -/
theorem deal : (bigSep toks fun x => (dutyTok ER x.1 x.2.1 x.2.2 : sProp 𝕄)) ⊢ bigSep Finset.univ payments := by
  have e : (bigSep toks fun x => (dutyTok ER x.1 x.2.1 x.2.2 : sProp 𝕄)) = bigSep (barCells ∪ endCells) fun g => dutyTok ER g 0 () :=
    bigSep_map tokEmb
  rw [e, over_cells]
  refine Entails.of_eq ((split_three _ _ _).trans ?_)
  rw [bigSep_univ_equiv peers (fun c : Dev nD => (dutyTok ER (barCell c) 0 () : sProp 𝕄)),
    bigSep_univ_equiv peers (fun c : Dev nD => (four (fun k => dutyTok ER (recvCell k c) 0 ()) : sProp 𝕄))]
  exact (split_three _ _ _).symm

theorem tally_to (c d : Dev nD) (sm sm' : SemLoc sig) (n : ℕ) :
    tallyAt (((peer d : Dev nD) : Thread nD τ), sm) () n ((c : Thread nD τ), sm') () = if d = peer c ∧ sm' = sm then n else 0 := by
  rw [tallyAt_apply]
  refine if_congr ⟨fun h => ?_, fun h => ?_⟩ rfl rfl
  · have e : c = peer d := congrArg (fun g : GSem nD τ sig => g.1.1) h.1
    exact ⟨by rw [e, peer_peer], congrArg Prod.snd h.1⟩
  · obtain ⟨rfl, rfl⟩ := h
    rw [peer_peer]; exact ⟨rfl, rfl⟩

theorem owed_bar (c d : Dev nD) : owed₀ d (barCell c) () = if d = peer c then 1 else 0 := by
  unfold owed₀ due
  simp only [Pi.add_apply, Finsupp.add_apply]
  simp [tally_to]

theorem owed_recv (k : Fin 4) (c d : Dev nD) : owed₀ d (recvCell k c) () = if d = peer c then amt k else 0 := by
  unfold owed₀ due
  simp only [Pi.add_apply, Finsupp.add_apply, tally_to]
  match k with
  | 0 | 1 | 2 | 3 => simp

/-- What everyone owes a semaphore at launch, when only the partner owes it anything. -/
theorem launch_credit (c : Dev nD) (sm : SemLoc sig) (n : ℕ) (h : ∀ d, owed₀ d ((c : Thread nD τ), sm) () = if d = peer c then n else 0) :
    tallyOn ((c : Thread nD τ), sm) (launchCredit (Pipeline.owing owed₀) 0 ((c : Thread nD τ), sm))
      = (tallyAt ((c : Thread nD τ), sm) () n : CellTallies nD τ sig Unit) := by
  unfold tallyAt; refine congrArg _ (Finsupp.ext fun u => ?_); cases u
  rw [Pipeline.launchCredit_owing, Finsupp.single_eq_same, Finset.sum_congr rfl fun d _ => h d,
    Finset.sum_ite_eq' Finset.univ (peer c) fun _ => n, if_pos (Finset.mem_univ _)]

theorem creds (c : Dev nD) : (Pipeline.launchCred owed₀ c : sProp 𝕄) ⊢ credits c := by
  unfold Pipeline.launchCred credits four
  beta_reduce
  refine (BI.bigSep_subset (Finset.subset_univ
    [SemLoc.reg barS, .dma (recvS 0), .dma (recvS 1), .dma (recvS 2), .dma (recvS 3)].toFinset)).trans ?_
  rw [BI.bigSep_eq_bigSepL_of_eq _ rfl (by decide), ← launch_credit c _ _ (owed_bar c), ← launch_credit c _ _ (owed_recv 0 c),
    ← launch_credit c _ _ (owed_recv 1 c), ← launch_credit c _ _ (owed_recv 2 c), ← launch_credit c _ _ (owed_recv 3 c)]
  exact BI.Entails.refl _

end Cert.Moe

end
-- ==== Proof.Run.lean ====
/-
# The run of the whole program

The program is one reshape and then the region. From any memory every run ends, with the arguments as they were, the result
the one computed on the device and its partner, and every semaphore back at zero.
-/
module

public import proofs.«01_k».proof.Proof.Launch

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Into the region and out of it -/

/-- The scratch buffers of the region, at contents not chosen. -/
theorem scratch_eq (c : Dev nD) : (Pipeline.scopedRest spec0 c : sProp 𝕄) = scratch c := by
  rw [scopedRest0_eq]
  unfold scratch held
  simp only [Memref.view_whole, View.set_whole]

theorem held_none (c : Dev nD) (W : Valuation τ sig (Elt F)) : (StableHlo.held (c : Thread nD τ) ∅ W : sProp 𝕄) = BI.emp :=
  BI.bigSep_empty

theorem entering (c : Dev nD) :
    iprop(Pipeline.scopedRest (Pipeline.pin (pcfgs (F := F)) adm 0).spec c ∗ (∃ r, prngReg c r)
      ∗ StableHlo.held (c.tc : Thread nD τ) ∅ (onEntry m c) ∗ ready₀ m c) ⊢ (pdats m 0 c).Φ 0 := by
  rw [show (pdats m 0 c).Φ 0 = iprop(ready₀ m c ∗ scratch c ∗ ∃ r, prngReg c r) from rfl, ← scratch_eq]
  iintro ⟨Hs, Hp, -, HK⟩
  isplitl [HK]; · iexact HK
  isplitl [Hs]; · iexact Hs
  iexact Hp

theorem leaves (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (onExit m c) ∗ Pipeline.ownSems0 ends c ∗ semVal (barCell c) 0) := by
  rw [show (pdats m 0 c).Φ (Fin.last _) = iprop(quiet c ∗ scratch c ∗ ∃ r, prngReg c r) from rfl, ← scratch_eq, ownSems, held_none]
  unfold quiet
  iintro ⟨⟨Hb, Hse, Hre⟩, Hs, Hp⟩
  isplitl [Hs]; · iexact Hs
  isplitl [Hp]; · iexact Hp
  isplitr; · iempintro
  isplitr [Hb]
  · isplitl [Hse]; · iexact Hse
    iexact Hre
  iexact Hb

/-- What is owed in the region is owed above the region's own waits. -/
theorem owed_above (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then owed₀ c else 0 := rfl
  rw [e] at h
  split at h
  · exact above_owed₀ c g i h
  · exact absurd h (Nat.lt_irrefl 0)

theorem staging_low : ∀ (w : Fin 5) (s : Fin (cfg0.win w).nbuf), height (role (.dma ((cfg0.win w).sem s))) = 0 := by decide

theorem out_not_other : Proc.devRef .tc main_v2 ∉ others := by decide

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 ends ends_own
    ∅ others (Finset.empty_subset _) launch0.toP rfl (fun c => (body m c).loose)
    (fun _ => 0) owed₀ (fun c => ((owed_at m c 0).trans (if_pos rfl)).trans (zero_add _).symm) (owed_end m) (fun _ => rfl) (fun c => (dat m c).share_full fun _ => rfl)
    (onEntry m) (onExit m) (fun c b hb => onExit_ne m c b fun h => out_not_other (h ▸ (Finset.mem_sdiff.mp hb).1))
    (carried m) (fun c => semVal (barCell c) 0) (ready₀ m) (fun c => semVal (barCell c) 0) (opening m) (entering m) (leaves m)
    (fun c => by iintro H; imodintro; iexact H)
    (fun _ => 0)
    ⟨fun _ w s => by rw [L_tc]; exact Finset.mem_singleton_self _,
      fun _ w s => le_of_eq (staging_low w s), fun c t g i h => owed_above m c t g i h⟩
    (fun _ => iprop(emp))
    (fun _ _ => rfl)
    (fun c w => by
      match w with
      | ⟨0, _⟩ => exact (kept m c 0 rfl _).trans (onExit_ne m c _ (by decide)).symm
      | ⟨1, _⟩ => exact (kept m c 1 rfl _).trans (onExit_ne m c _ (by decide)).symm
      | ⟨2, _⟩ => exact (kept m c 2 rfl _).trans (onExit_ne m c _ (by decide)).symm
      | ⟨3, _⟩ => exact (kept m c 3 rfl _).trans (onExit_ne m c _ (by decide)).symm
      | ⟨4, _⟩ => exact (written m c).trans (onExit_out m c).symm)

/-- What rides beside the buffers up to the region. -/
def riding (c : Dev nD) : sProp 𝕄 := iprop(carried m c ∗ (∃ r, prngReg c r) ∗ owing c (owed₀ c))

theorem reg_pre (c : Dev nD) : iprop(StableHlo.held (c : Thread nD τ) bufs (onEntry m c) ∗ riding m c) ⊢ (reg m).pre c := by
  show _ ⊢ iprop(StableHlo.held (c.tc : Thread nD τ) arrs (onEntry m c) ∗ (∃ r, prngReg c r)
    ∗ (StableHlo.held (c.tc : Thread nD τ) others (onEntry m c) ∗ emp) ∗ carried m c ∗ ∃ Wd, owes (c : Thread nD τ) (0 + owed₀ c) Wd)
  rw [StableHlo.held_sub_split (c : Thread nD τ) arrs_sub, zero_add]
  unfold riding owing
  iintro ⟨⟨Ha, Ho⟩, HK, Hp, HO⟩
  isplitl [Ha]; · iexact Ha
  isplitl [Hp]; · iexact Hp
  isplitl [Ho]
  · isplitl [Ho]; · iexact Ho
    iempintro
  isplitl [HK]; · iexact HK
  iexact HO

theorem reg_post (c : Dev nD) : (reg m).post c
    ⊢ iprop((StableHlo.held (c : Thread nD τ) bufs (onExit m c) ∗ semVal (barCell c) 0) ∗ owing c (0 : CellTallies nD τ sig Unit)) := by
  show iprop(StableHlo.held (c.tc : Thread nD τ) arrs (onExit m c) ∗ (∃ r, prngReg c r)
    ∗ (StableHlo.held (c.tc : Thread nD τ) others (onExit m c) ∗ emp) ∗ semVal (barCell c) 0
    ∗ ∃ Wd, owes (c : Thread nD τ) (0 : CellTallies nD τ sig Unit) Wd) ⊢ _
  rw [StableHlo.held_sub_split (c : Thread nD τ) arrs_sub]
  unfold owing
  iintro ⟨Ha, -, ⟨Ho, -⟩, Hb, HO⟩
  isplitr [HO]
  · isplitr [Hb]
    · isplitl [Ha]; · iexact Ha
      iexact Ho
    iexact Hb
  iexact HO

/-! ## The program as its two parts -/

theorem ops_sub : ∀ op ∈ (hostOps0 : List (HloOp τ sig (Elt F))), op.bufs ⊆ bufs := fun op h => by
  simp only [List.mem_singleton] at h; subst h
  show ({Proc.devRef .tc main_arg1, Proc.devRef .tc main_v1} : Finset (DevRef τ sig)) ⊆ bufs; decide

theorem ops_fresh : ∀ op ∈ (hostOps0 : List (HloOp τ sig (Elt F))), op.fresh = ∅ :=
  List.forall_iff_forall_mem.mp hostOps0_fresh

def host : Pipeline.HostSeg (Name := ℕ) (U := UU) (pcfgs (F := F)) defs₀ 𝒱₀ L lv :=
  Pipeline.HostSeg.ofOps _ _ _ _ _ bufs hostOps0 ops_sub ops_fresh (atLaunch m) (riding m)

def segs : List (Pipeline.Seg (pcfgs (F := F)) adm (pdats m) () defs₀ 𝒱₀ L lv) := [.host (host m), .region (reg m)]

theorem main_eq (c : Dev nD) : main (F := F) c = Pipeline.Seg.run (segs m) :=
  main_segs adm (pdats m) () 𝒱₀ L lv (host m) (reg m) rfl c

/-! ## The launch -/

/-- The launch element: the staging library's, and the talk's. -/
def u₀ : UU :=
  (initOf (Pipeline.cells (Pipeline.pin (pcfgs (F := F)) adm) cellOf_inj) (Pipeline.launchToks (Pipeline.pin (pcfgs (F := F)) adm) cellOf_inj),
    launchOf barCells endCells toks)

/-- A resource that is wholly on device 0. -/
def onZero (X : sProp 𝕄) (c : Dev nD) : sProp 𝕄 := if c = 0 then X else iprop(emp)

theorem bigSep_onZero (X : sProp 𝕄) : bigSep Finset.univ (onZero X) = X := by
  rw [bigSep_univ_at _ 0, bigSep_congr (s := Finset.univ.erase 0) (Ψ := fun _ => (BI.emp : sProp 𝕄))
      fun c hc => by unfold onZero; rw [if_neg (Finset.ne_of_mem_erase hc)]; rfl, BI.bigSep_emp_const]
  unfold onZero; rw [if_pos rfl]
  exact BI.equiv_iff.mp sep_emp

def parked : Dev nD → sProp 𝕄 := onZero (BI.own (ER (launchOf barCells endCells toks)))

theorem barrier_only (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem unscoped_eq : ∀ sm : SemLoc sig, sm.isScoped .tc = false → sm = .reg barS := by decide

/-- What a device holds at the start, and at the end. -/
abbrev start (c : Dev nD) : sProp 𝕄 := iprop(StableHlo.held (c : Thread nD τ) bufs (atLaunch m c) ∗ riding m c)
abbrev finish (c : Dev nD) : sProp 𝕄 := iprop(StableHlo.held (c : Thread nD τ) bufs (onExit m c) ∗ semVal (barCell c) 0)

/-- The part of `start` that is not of the talk. -/
def plain (c : Dev nD) : sProp 𝕄 :=
  iprop(StableHlo.held (c : Thread nD τ) bufs (atLaunch m c) ∗ credits c ∗ owes (c : Thread nD τ) (owed₀ c) ∅ ∗ ∃ r, prngReg c r)

theorem start_intro (K : GSem nD τ sig → ℕ) (c : Dev nD) :
    iprop(records m K ∗ ((payments c ∗ places c) ∗ plain m c)) ⊢ start m c := by
  unfold plain start riding carried owing
  iintro ⟨#HR, ⟨Hpay, Hpl⟩, Hh, Hcr, HO, Hp⟩
  isplitl [Hh]; · iexact Hh
  isplitr [Hp HO]
  · isplitr; · iexists K; iexact HR
    isplitl [Hpay]; · iexact Hpay
    isplitl [Hcr]; · iexact Hcr
    iexact Hpl
  isplitl [Hp]; · iexact Hp
  iexists ∅; iexact HO

/-- Everyone's invariants, listed by device. -/
theorem all_invs (K : GSem nD τ sig → ℕ) :
    (bigSep (barCells ∪ endCells) fun g => (cellInv ER (sched m) (K g) g : sProp 𝕄)) ⊢ invs m K := by
  rw [over_cells]
  unfold invs
  exact Entails.of_eq (bigSep_congr fun c _ => by rw [bigSep_four, bigSep_four])

/-- At launch every invariant is made, and everything dealt. -/
theorem dealt :
    iprop((bigSep Finset.univ fun c : Dev nD => iprop(unscopedBufs c (fun b => m ((c : Thread nD τ).loc b)) ∗ unscopedSems0 c
          ∗ owes (c : Thread nD τ) (owed₀ c) ∅ ∗ Pipeline.launchCred owed₀ c ∗ prngReg c (ρ c) ∗ parked c)) ∗ levAts L lv)
      ⊢ (|={Set.univ}=> bigSep Finset.univ (start m) : sProp 𝕄) := by
  have hcore (c : Dev nD) : iprop(unscopedBufs c (fun b => m ((c : Thread nD τ).loc b)) ∗ unscopedSems0 c
        ∗ owes (c : Thread nD τ) (owed₀ c) ∅ ∗ Pipeline.launchCred owed₀ c ∗ prngReg c (ρ c) ∗ parked c)
      ⊢ (iprop(plain m c ∗ (semVal (barCell c) 0 ∗ parked c)) : sProp 𝕄) := by
    rw [show unscopedBufs c (fun b => m ((c : Thread nD τ).loc b)) = StableHlo.held (c : Thread nD τ) bufs (atLaunch m c) from
      unscopedBufs_held c (atLaunch m c), barrier_only]
    unfold plain
    iintro ⟨Hh, Hus, HO, Hcr, Hp, HG⟩
    isplitl [Hh HO Hcr Hp]
    · isplitl [Hh]; · iexact Hh
      isplitl [Hcr]; · iapply (creds (F := F) c) $$ Hcr
      isplitl [HO]; · iexact HO
      iexists (ρ c); iexact Hp
    isplitl [Hus]; · iexact Hus
    iexact HG
  iintro ⟨H, -⟩
  ihave H := (show (bigSep Finset.univ fun c : Dev nD => iprop(unscopedBufs c (fun b => m ((c : Thread nD τ).loc b)) ∗ unscopedSems0 c
          ∗ owes (c : Thread nD τ) (owed₀ c) ∅ ∗ Pipeline.launchCred owed₀ c ∗ prngReg c (ρ c) ∗ parked c))
      ⊢ (bigSep Finset.univ fun c : Dev nD => iprop(plain m c ∗ (semVal (barCell c) 0 ∗ parked c)) : sProp 𝕄) from
    bigSep_mono fun c _ => hcore c) $$ H
  ihave H := (Entails.of_eq (bigSep_sep' Finset.univ _ _)) $$ H; icases H with ⟨HB, H⟩
  ihave H := (Entails.of_eq (bigSep_sep' Finset.univ _ _)) $$ H; icases H with ⟨Hv, HG⟩
  ihave Hu := (show bigSep Finset.univ (parked (F := F)) ⊢ BI.own (ER (launchOf barCells endCells toks)) from
    Entails.of_eq (bigSep_onZero (F := F) _)) $$ HG
  imod (Rounds.fund_launch ER (sched m) disjoint_cells (fun g _ h => h) toks) $$ [Hv Hu] with ⟨%K, -, #Hinv, #Hr, Hat, Hopen, Htok⟩
  · isplitl [Hv]
    · iapply (Entails.of_eq (over_bars (F := F) fun g => semVal g 0).symm) $$ Hv
    · iexact Hu
  imodintro
  iapply (bigSep_with_persistent (R := records m K) (Φ := fun c => iprop((payments c ∗ places c) ∗ plain m c)) fun c _ => start_intro m K c)
  isplitr
  · unfold records
    isplitr; · iapply (all_invs m K); iexact Hinv
    iapply (Entails.of_eq (over_bars (F := F) fun g => reached ER g 0)); iexact Hr
  iapply (Entails.of_eq (bigSep_sep' Finset.univ _ _).symm)
  isplitr [HB]
  · iapply (Entails.of_eq (bigSep_sep' Finset.univ _ _).symm)
    isplitl [Htok]; · iapply (deal (F := F)) $$ Htok
    unfold places
    iapply (Entails.of_eq (bigSep_sep' Finset.univ _ _).symm)
    isplitl [Hat]; · iapply (Entails.of_eq (over_bars (F := F) fun g => atPos ER g 0 ∅ 0)) $$ Hat
    iapply (Entails.of_eq (over_endCells (F := F) fun g => openTok ER g)) $$ Hopen
  · iexact HB

/-! ## The run -/

/-- The buffers one by one. -/
theorem held_bufs (c : Dev nD) (W : Valuation τ sig (Elt F)) : (StableHlo.held (c : Thread nD τ) bufs W : sProp 𝕄)
    = iprop((((c : Thread nD τ).loc main_arg0) ↦{fullShare} W main_arg0) ∗ (((c : Thread nD τ).loc main_arg1) ↦{fullShare} W main_arg1)
      ∗ (((c : Thread nD τ).loc main_arg2) ↦{fullShare} W main_arg2) ∗ (((c : Thread nD τ).loc main_arg3) ↦{fullShare} W main_arg3)
      ∗ (((c : Thread nD τ).loc main_v1) ↦{fullShare} W main_v1) ∗ (((c : Thread nD τ).loc main_v2) ↦{fullShare} W main_v2)) := by
  unfold StableHlo.held
  rw [bigSep_eq_bigSepL_of_eq [Proc.devRef .tc main_arg0, Proc.devRef .tc main_arg1, Proc.devRef .tc main_arg2, Proc.devRef .tc main_arg3,
    Proc.devRef .tc main_v1, Proc.devRef .tc main_v2] (by decide) (by decide)]
  rfl

theorem exit_arg0 (c : Dev nD) : onExit m c main_arg0 = m ((c : Thread nD τ).loc main_arg0) :=
  (onExit_ne m c _ (by decide)).trans (V_main_arg0 m c)
theorem exit_arg1 (c : Dev nD) : onExit m c main_arg1 = m ((c : Thread nD τ).loc main_arg1) :=
  (onExit_ne m c _ (by decide)).trans (V_main_arg1 m c)
theorem exit_arg2 (c : Dev nD) : onExit m c main_arg2 = m ((c : Thread nD τ).loc main_arg2) :=
  (onExit_ne m c _ (by decide)).trans (V_main_arg2 m c)
theorem exit_arg3 (c : Dev nD) : onExit m c main_arg3 = m ((c : Thread nD τ).loc main_arg3) :=
  (onExit_ne m c _ (by decide)).trans (V_main_arg3 m c)

set_option backward.isDefEq.respectTransparency.types false in
/-- Every run ends, on every device with the arguments as they were and `result` in the output, and with every semaphore at zero. -/
theorem run_main : θ_run (defs (F := F)) (onTc (τ := τ) (main (F := F))) (s₀ m ρ)
    (fun r => (∀ c : Dev nD, r.2.mem ((c : Thread nD τ).loc main_v2) = result m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := owed₀) (hL := L_of_ne) (G := parked) (u₀ := u₀ (F := F))
    (hu₀ := by
      unfold u₀ parked
      iintro Hu
      ihave H := (ownU_pair _ _) $$ Hu
      icases H with ⟨HP, HX⟩
      imodintro
      isplitl [HP]; · iexact HP
      rw [bigSep_onZero]; iexact HX)
    (T₀ := start m) (Tₙ := finish m)
    (hch := ⟨fun c => .rfl, fun c => reg_pre m c, fun c => reg_post m c⟩)
    (hinit := dealt m ρ)
    (QY := fun c s => (s.mem ((c : Thread nD τ).loc main_v2) = onExit m c main_v2
        ∧ s.mem ((c : Thread nD τ).loc main_arg0) = onExit m c main_arg0
        ∧ s.mem ((c : Thread nD τ).loc main_arg1) = onExit m c main_arg1
        ∧ s.mem ((c : Thread nD τ).loc main_arg2) = onExit m c main_arg2
        ∧ s.mem ((c : Thread nD τ).loc main_arg3) = onExit m c main_arg3)
      ∧ s.sem (barCell c) = 0)
    (hfin := fun c s' => by
      dsimp only [finish]; rw [held_bufs]
      iintro ⟨⟨⟨H0, H1, H2, H3, -, Hv⟩, Hb⟩, HSI⟩
      icombine HSI H0 gives %h0
      icombine HSI H1 gives %h1
      icombine HSI H2 gives %h2
      icombine HSI H3 gives %h3
      icombine HSI Hv gives %hv
      icombine HSI Hb gives %hb
      imodintro
      isplitr
      · ipureintro
        exact ⟨⟨Buf.eq_of_forall_mem_univ hv, Buf.eq_of_forall_mem_univ h0, Buf.eq_of_forall_mem_univ h1, Buf.eq_of_forall_mem_univ h2,
          Buf.eq_of_forall_mem_univ h3⟩, by simpa using hb⟩
      iexact HSI)
    (hQ := fun s h hs => ⟨fun c => by
        obtain ⟨⟨hv, h0, h1, h2, h3⟩, -⟩ := h c
        exact ⟨hv.trans (onExit_out m c), h0.trans (exit_arg0 m c), h1.trans (exit_arg1 m c), h2.trans (exit_arg2 m c),
          h3.trans (exit_arg3 m c)⟩,
      sem_eq_zero hs fun c sm hsm => by
        obtain rfl := unscoped_eq sm hsm
        exact (h c).2⟩)

end Cert.Moe

end
-- ==== Proof.Block.lean ====
/-
# What one block computes

Over extended reals with exact operations: a row of the block goes through an expert, and is kept where the row's expert
number is the expert's, and is zero elsewhere.
-/
module

public import proofs.«01_k».proof.Proof.Gen.KernelIdeal.Skeleton
public import Idealize.ShloMosaic.Lib.Pointwise

@[expose] public section

noncomputable section

namespace Cert.Moe

open Cert.KernelIdeal Cert.KernelIdeal.Gen
open Idealize.ShloMosaic

/-- Entry `j` of the row `x` through the expert with matrices `a` and `b`. -/
def expert (x : Fin 512 → EReal) (a : Fin 512 → Fin 1024 → EReal) (b : Fin 1024 → Fin 512 → EReal) (j : Fin 512) : EReal :=
  ∑ f, max (∑ k, x k * a k f) 0 * b f j

/-- Two expert numbers compared and widened to a number: one if they agree, else zero. -/
theorem mask_value (i e : BitVec 32) : FloatOps.sitofp (F := Ideal) .f32 (BitVec.setWidth 32 (IntOp.cmpi CmpIPredicate.eq i e))
    = if i = e then (1 : EReal) else 0 := by
  show (((BitVec.setWidth 32 (IntOp.cmpi CmpIPredicate.eq i e)).toInt : ℝ) : EReal) = _
  have hc : IntOp.cmpi CmpIPredicate.eq i e = if i = e then 1#1 else 0#1 := by
    by_cases h : i = e
    · simp [IntOp.cmpi, h]
    · simp [IntOp.cmpi, h, beq_eq_false_iff_ne.mpr h]
  rw [hc]; by_cases h : i = e <;> simp [h]

/-- A value multiplied by the mask is the value where the numbers agree, and zero elsewhere. -/
theorem masked (i e : BitVec 32) (v : EReal) :
    FloatOps.sitofp (F := Ideal) .f32 (BitVec.setWidth 32 (IntOp.cmpi CmpIPredicate.eq i e)) * v = if i = e then v else 0 := by
  rw [mask_value]; split <;> simp

/-- The number of expert `e` of the device at place `p`. -/
abbrev number (p e : BitVec 32) : BitVec 32 := Scalar.addi (Scalar.muli p 2#32) e

variable (p : BitVec 32)

/-! ## The device's own 512 rows -/

section Own
variable (x : FVec Ideal S512x512 .bf16) (i : IVec S512x1 32) (a : FVec Ideal S1x512x1024 .bf16) (b : FVec Ideal S1x1024x512 .bf16)

/-- The rows through the first expert, kept where their number is that expert's. -/
theorem own_first (r j : Fin 512) : k0_pay8 p x i a b (ix2 r j)
    = if i (ix2 r 0) = number p 0#32 then expert (fun k => x (ix2 r k)) (fun k f => a (ix3 0 k f)) (fun f j => b (ix3 0 f j)) j else 0 := by
  pointwise [k0_pay8]
  exact masked _ _ _

/-- The second expert's part, added to what stood there. -/
theorem own_second (y : FVec Ideal S512x512 .f32) (r j : Fin 512) : k0_pay14 p x y i a b (ix2 r j)
    = y (ix2 r j) + if i (ix2 r 0) = number p 1#32 then expert (fun k => x (ix2 r k)) (fun k f => a (ix3 0 k f)) (fun f j => b (ix3 0 f j)) j else 0 := by
  pointwise [k0_pay14]
  exact congrArg _ (masked _ _ _)

end Own

/-! ## 256 rows of the partner's -/

section Sent
variable (x : FVec Ideal S256x512 .bf16) (i : IVec S256x1 32) (a a' : FVec Ideal S1x512x1024 .bf16) (b b' : FVec Ideal S1x1024x512 .bf16)

/-- A row of the partner's through both the device's experts. -/
def both (r : Fin 256) (j : Fin 512) : EReal :=
  (if i (ix2 r 0) = number p 0#32 then expert (fun k => x (ix2 r k)) (fun k f => a (ix3 0 k f)) (fun f j => b (ix3 0 f j)) j else 0)
    + if i (ix2 r 0) = number p 1#32 then expert (fun k => x (ix2 r k)) (fun k f => a' (ix3 0 k f)) (fun f j => b' (ix3 0 f j)) j else 0

/-- The first 256 rows sent back are the partner's rows through both experts, -/
theorem upper_half (r : Fin 256) (j : Fin 512) :
    k0_pay11 (F := Ideal) x (k0_pay9 p x i a b) (k0_pay10 p i) a' b' (ix2 r j) = both p x i a a' b b' r j := by
  pointwise [k0_pay11, k0_pay9, k0_pay10]
  exact congrArg₂ _ (masked _ _ _) (masked _ _ _)

/-- and so are the last 256, which the kernel works out in another order. -/
theorem lower_half (r : Fin 256) (j : Fin 512) :
    k0_pay13 (F := Ideal) p x i (k0_pay12 (F := Ideal) p i) a b a' b' (ix2 r j) = both p x i a a' b b' r j := by
  pointwise [k0_pay13, k0_pay12]
  exact congrArg₂ _ (masked _ _ _) (masked _ _ _)

end Sent

/-! ## The sum, and the copies -/

/-- The result is what the device made of its own rows plus what came back for them. -/
theorem total (y : FVec Ideal S512x512 .f32) (z : FVec Ideal S512x512 .bf16) : k0_pay1 y z = fun i => y i + z i := by
  funext i; pointwise [k0_pay1]

/-- A block stored into a buffer to be sent, or read again, is the block. -/
theorem copy_rows (x : FVec Ideal S512x512 .bf16) : k0_pay2 x = x := by unfold k0_pay2; simp only [shapeCast_id]
theorem copy_ids (i : IVec S512x1 32) : k0_pay3 (F := Ideal) i = i := by unfold k0_pay3; simp only [shapeCast_id]
theorem copy_first (a : FVec Ideal S2x512x1024 .bf16) : k0_pay4 a = a := by unfold k0_pay4; simp only [shapeCast_id]
theorem copy_second (b : FVec Ideal S2x1024x512 .bf16) : k0_pay5 b = b := by unfold k0_pay5; simp only [shapeCast_id]
theorem read_rows (x : FVec Ideal S512x512 .bf16) : k0_pay6 x = x := by unfold k0_pay6; simp only [shapeCast_id]
theorem read_ids (i : IVec S512x1 32) : k0_pay7 (F := Ideal) i = i := by unfold k0_pay7; simp only [shapeCast_id]

end Cert.Moe

end
-- ==== Proof.Array.lean ====
/-
# What the result array holds

Each entry of a device's rows of the result, over extended reals: the row of `x` through the device's own two experts,
and through the two of its partner.
-/
module

public import proofs.«01_k».proof.Proof.Contents
public import proofs.«01_k».proof.Proof.Block
public import Idealize.ShloMosaic.Lib.StableHlo.Run
public import Idealize.ShloMosaic.Lib.Pipeline.ValueKit.Geometry

@[expose] public section

noncomputable section

namespace Cert.Moe

open Cert.KernelIdeal Cert.KernelIdeal.Gen
open Idealize.ShloMosaic Idealize.ShloMosaic.TcCoe

variable (m : (ℓ : Loc nD τ sig) → Buf (Elt Ideal) ℓ)

/-! ## The arguments of a device -/

def argX (c : Dev nD) : FVec Ideal S512x512 .bf16 := m ((c : Thread nD τ).loc main_arg0)
def argI (c : Dev nD) : IVec S512 32 := m ((c : Thread nD τ).loc main_arg1)
def argW (c : Dev nD) : FVec Ideal S2x512x1024 .bf16 := m ((c : Thread nD τ).loc main_arg2)
def argU (c : Dev nD) : FVec Ideal S2x1024x512 .bf16 := m ((c : Thread nD τ).loc main_arg3)

/-- The one block of each input is the whole of its array. -/
theorem whole_x (f : FVec Ideal S512x512 .bf16) : ((cfg0.win 0).blk t0_0).view.read (Elt Ideal) f = f :=
  Memref.read_access_unit_zero (Elt Ideal) main_arg0 (funext fun _ => Nat.zero_mul _) _ f

theorem whole_ids (f : IVec S512x1 32) : ((cfg0.win 1).blk t0_0).view.read (Elt Ideal) f = f :=
  Memref.read_access_unit_zero (Elt Ideal) main_v1 (funext fun _ => Nat.zero_mul _) _ f

theorem whole_w (f : FVec Ideal S2x512x1024 .bf16) : ((cfg0.win 2).blk t0_0).view.read (Elt Ideal) f = f :=
  Memref.read_access_unit_zero (Elt Ideal) main_arg2 (funext fun _ => Nat.zero_mul _) _ f

theorem whole_u (f : FVec Ideal S2x1024x512 .bf16) : ((cfg0.win 3).blk t0_0).view.read (Elt Ideal) f = f :=
  Memref.read_access_unit_zero (Elt Ideal) main_arg3 (funext fun _ => Nat.zero_mul _) _ f

/-- So the device reads its rows of `x` and its matrices as the launch found them, -/
theorem xIn_eq (c : Dev nD) : xIn m c = argX m c := (whole_x _).trans (V_main_arg0 m c)
theorem w₁In_eq (c : Dev nD) : w₁In m c = argW m c := (whole_w _).trans (V_main_arg2 m c)
theorem w₂In_eq (c : Dev nD) : w₂In m c = argU m c := (whole_u _).trans (V_main_arg3 m c)

/-- and its rows' expert numbers stood in a column. -/
theorem column (c : Dev nD) : V m c main_v1 = shapeCast S512x1 (argI m c) shapeCasts_S512_S512x1 :=
  (congrFun ((StableHlo.after_cons (StableHlo.reshape main_arg1 main_v1 rfl shapeCasts_S512_S512x1) [] _).trans
      (StableHlo.after_nil _)) _).trans
    (StableHlo.reshape_result main_arg1 main_v1 rfl shapeCasts_S512_S512x1 _ _ _)

theorem idIn_eq (c : Dev nD) : idIn m c = shapeCast S512x1 (argI m c) shapeCasts_S512_S512x1 := (whole_ids _).trans (column m c)

/-- The number of row `r`, in that column. -/
theorem idIn_at (c : Dev nD) (r : Fin 512) : idIn m c (ix2 r 0) = argI m c (ix1 r) := by
  rw [idIn_eq]; pointwise []

/-! ## Slabs and halves -/

/-- Where an entry of expert `e`'s slab stands in the stack of first matrices, -/
theorem slab₁_at (e : Fin 2) (k : Fin 512) (f : Fin 1024) : (slab₁ e).emb (ix3 (0 : Fin 1) k f) = ix3 e k f := by
  refine Rect.emb_eq_of_coords _ _ _ ?_
  revert e
  exact Fin.forall_fin_two.mpr ⟨fun a => by fin_cases a <;> simp [slabOff], fun a => by fin_cases a <;> simp [slabOff]⟩

/-- and in the stack of second matrices. -/
theorem slab₂_at (e : Fin 2) (f : Fin 1024) (j : Fin 512) : (slab₂ e).emb (ix3 (0 : Fin 1) f j) = ix3 e f j := by
  refine Rect.emb_eq_of_coords _ _ _ ?_
  revert e
  exact Fin.forall_fin_two.mpr ⟨fun a => by fin_cases a <;> simp [slabOff], fun a => by fin_cases a <;> simp [slabOff]⟩

/-- The row `r` of half `h`, among all 512. -/
def inHalf (h : Fin 2) (r : Fin 256) : Fin 512 := ⟨256 * h.val + r.val, by omega⟩

/-- Every row is in one of the halves. -/
theorem inHalf_surj (R : Fin 512) : ∃ h r, inHalf h r = R :=
  ⟨⟨R.val / 256, by omega⟩, ⟨R.val % 256, by omega⟩, Fin.ext (by show 256 * (R.val / 256) + R.val % 256 = R.val; omega)⟩

/-- Where an entry of half `h` stands in the whole buffer, -/
theorem rows_at (h : Fin 2) (r : Fin 256) (j : Fin 512) : (rows h).emb (ix2 r j) = ix2 (inHalf h r) j := by
  refine Rect.emb_eq_of_coords _ _ _ ?_
  revert h
  exact Fin.forall_fin_two.mpr ⟨fun a => by fin_cases a <;> simp [halfOff, inHalf], fun a => by fin_cases a <;> simp [halfOff, inHalf]⟩

/-- and where a row of half `h` stands in the whole column. -/
theorem idRows_at (h : Fin 2) (r : Fin 256) : (idRows h).emb (ix2 r (0 : Fin 1)) = ix2 (inHalf h r) (0 : Fin 1) := by
  refine Rect.emb_eq_of_coords _ _ _ ?_
  revert h
  exact Fin.forall_fin_two.mpr ⟨fun a => by fin_cases a <;> simp [halfOff, inHalf], fun a => by fin_cases a <;> simp [halfOff, inHalf]⟩

/-! ## One row through the two experts of one device -/

/-- Row `r` of device `c` through expert `e` of device `d`, kept if the row's expert number is that expert's. -/
def term (d c : Dev nD) (e : Fin 2) (r j : Fin 512) : EReal :=
  if argI m c (ix1 r) = BitVec.ofNat 32 (2 * (d.val / 4) + e.val)
  then expert (fun k => argX m c (ix2 r k)) (fun k f => argW m d (ix3 e k f)) (fun f j => argU m d (ix3 e f j)) j else 0

/-- The number the kernel works out for expert `e` of a device. -/
theorem number_place (c : Dev nD) (e : Fin 2) : number (place c) (BitVec.ofNat 32 e.val) = BitVec.ofNat 32 (2 * (c.val / 4) + e.val) := by
  revert c e; decide

/-- The device's own rows, through both its experts. -/
theorem ownBoth_at (c : Dev nD) (r j : Fin 512) : ownBoth m c (ix2 r j) = term m c c 0 r j + term m c c 1 r j := by
  unfold ownBoth ownFirst w₁ w₂ part term
  rw [own_second, own_first]
  simp only [read_rows, read_ids, copy_first, copy_second, xIn_eq, w₁In_eq, w₂In_eq, idIn_at, slab₁_at, slab₂_at]
  rw [← number_place c 0, ← number_place c 1]; rfl

/-- What a device sends back for its partner's rows: those rows through both its experts. -/
theorem sent_at (c : Dev nD) (h : Fin 2) (r : Fin 256) (j : Fin 512) :
    sent m c h (ix2 r j) = term m c (peer c) 0 (inHalf h r) j + term m c (peer c) 1 (inHalf h r) j := by
  have e : sent m c h (ix2 r j) = both (place c) (xGot m c h) (idGot m c h) (w₁ m c 0) (w₁ m c 1) (w₂ m c 0) (w₂ m c 1) r j := by
    revert h
    exact Fin.forall_fin_two.mpr ⟨upper_half .., lower_half ..⟩
  rw [e]
  unfold both xGot idGot xOut idOut w₁ w₂ part term
  simp only [copy_rows, copy_ids, copy_first, copy_second, xIn_eq, w₁In_eq, w₂In_eq, rows_at, idRows_at, idIn_at, slab₁_at, slab₂_at]
  rw [← number_place c 0, ← number_place c 1]; rfl

/-- What a device has back from its partner. -/
theorem answer_at (c : Dev nD) (r j : Fin 512) :
    answer m c (ix2 r j) = term m (peer c) c 0 r j + term m (peer c) c 1 r j := by
  obtain ⟨h, r, rfl⟩ := inHalf_surj r
  rw [← rows_at, show answer m c ((rows h).emb (ix2 r j)) = _ from congrFun (part_answer m c h) (ix2 r j), sent_at, peer_peer]

/-- The device's rows of the result. -/
theorem result_at (c : Dev nD) (r j : Fin 512) : result m c (ix2 r j)
    = term m c c 0 r j + term m c c 1 r j + (term m (peer c) c 0 r j + term m (peer c) c 1 r j) := by
  unfold result
  rw [total, ← ownBoth_at, ← answer_at]

end Cert.Moe

end
-- ==== Proof.Reference.lean ====
/-
# What the reference computes

The reference starts from zeros and goes through the four experts in order; each expert writes its rows over what stood
there.
-/
module

public import proofs.«01_k».proof.Proof.Gen.ReferenceIdeal.Run
public import proofs.«01_k».proof.Proof.Block

@[expose] public section

noncomputable section

namespace Cert.Moe

open Cert.ReferenceIdeal Cert.ReferenceIdeal.Gen
open Idealize.ShloMosaic Idealize.ShloMosaic.TcCoe Idealize.SL.Sem

variable (x : FVec Ideal S1024x512 .bf16) (i : IVec S1024 32) (w : FVec Ideal S4x512x1024 .bf16) (u : FVec Ideal S4x1024x512 .bf16)

/-- One expert of number `e`, with matrices `a` and `b`, written over `old`. -/
def over (e : BitVec 32) (a : FVec Ideal S1x512x1024 .bf16) (b : FVec Ideal S1x1024x512 .bf16) (old : FVec Ideal S1024x512 .f32) :
    FVec Ideal S1024x512 .f32 :=
  select (broadcastInDim S1024x512 ![0, 1] bcast_S1024x1_S1024x512_0_1
      (broadcastInDim S1024x1 ![0] bcast_S1024_S1024x1_0 (cmpi .eq i (broadcastInDim S1024 ![] bcast_S_S1024 (constantI S_ 32 e)))))
    (Host.dotGeneral dot_S1024x1024_S1024x512_S1024x512_1_0_0_1_n_n none
      (maximumf (Host.dotGeneral dot_S1024x512_S512x1024_S1024x1024_1_0_0_1_n_n none (extf .f32 x bitsLt_bf16_f32)
          (extf .f32 (shapeCast _ a shapeCasts_S1x512x1024_S512x1024) bitsLt_bf16_f32))
        (broadcastInDim S1024x1024 ![] bcast_S_S1024x1024 (constant S_ .f32 0x00000000#32)))
      (extf .f32 (shapeCast _ b shapeCasts_S1x1024x512_S1024x512) bitsLt_bf16_f32)) old

/-- A row whose number is `e` gets what the expert makes of that row of `x`; any other keeps what it had. -/
theorem over_value (e : BitVec 32) (a : FVec Ideal S1x512x1024 .bf16) (b : FVec Ideal S1x1024x512 .bf16) (old : FVec Ideal S1024x512 .f32)
    (R : Fin 1024) (j : Fin 512) : over x i e a b old (ix2 R j)
      = if i (ix1 R) = e then expert (fun k => x (ix2 R k)) (fun k f => a (ix3 0 k f)) (fun f j => b (ix3 0 f j)) j
        else old (ix2 R j) := by
  pointwise [over]
  by_cases h : i (ix1 R) = e
  · rw [if_pos h, h, show IntOp.cmpi CmpIPredicate.eq e e = 1#1 by simp [IntOp.cmpi]]
    rfl
  · rw [if_neg h, show IntOp.cmpi CmpIPredicate.eq (i (ix1 R)) e = 0#1 by simp [IntOp.cmpi, beq_eq_false_iff_ne.mpr h]]
    rfl

/-- The reference's result as a whole: zeros, and the four experts written over them in order. -/
def refValue : FVec Ideal S1024x512 .f32 :=
  over x i 3#32 (extractStridedSlice S1x512x1024 ![3, 0, 0] w slices_S4x512x1024_S1x512x1024_3_0_0)
      (extractStridedSlice S1x1024x512 ![3, 0, 0] u slices_S4x1024x512_S1x1024x512_3_0_0)
    (over x i 2#32 (extractStridedSlice S1x512x1024 ![2, 0, 0] w slices_S4x512x1024_S1x512x1024_2_0_0)
        (extractStridedSlice S1x1024x512 ![2, 0, 0] u slices_S4x1024x512_S1x1024x512_2_0_0)
      (over x i 1#32 (extractStridedSlice S1x512x1024 ![1, 0, 0] w slices_S4x512x1024_S1x512x1024_1_0_0)
          (extractStridedSlice S1x1024x512 ![1, 0, 0] u slices_S4x1024x512_S1x1024x512_1_0_0)
        (over x i 0#32 (extractStridedSlice S1x512x1024 ![0, 0, 0] w slices_S4x512x1024_S1x512x1024_0_0_0)
            (extractStridedSlice S1x1024x512 ![0, 0, 0] u slices_S4x1024x512_S1x1024x512_0_0_0)
          (broadcastInDim S1024x512 ![] bcast_S_S1024x512 (constant S_ .f32 0x00000000#32)))))

/-- Row `R` of `x` through expert `e` of the stacks, entry `j`. -/
def through (e : Fin 4) (R : Fin 1024) (j : Fin 512) : EReal :=
  expert (fun k => x (ix2 R k)) (fun k f => w (ix3 e k f)) (fun f j => u (ix3 e f j)) j

/-- Each row of the reference's result is the row of `x` through the expert whose number the row has, and zero for a
number that is none of the four. -/
theorem refValue_at (R : Fin 1024) (j : Fin 512) : refValue x i w u (ix2 R j)
    = if i (ix1 R) = 3#32 then through x w u 3 R j else if i (ix1 R) = 2#32 then through x w u 2 R j
      else if i (ix1 R) = 1#32 then through x w u 1 R j else if i (ix1 R) = 0#32 then through x w u 0 R j else 0 := by
  unfold refValue through
  simp only [over_value]
  pointwise []

/-- Every run of the reference ends with that result, and with its arguments as they were. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v57)
          = refValue (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => h c) (Value.run (F := Ideal) m ρ)

end Cert.Moe

end
-- ==== Proof.Equation.lean ====
/-
# The kernel's result is the reference's

Every device holds a block of the reference's arguments: half the rows of `x` and of the expert numbers, and two of the
four experts. A device and its partner hold all four experts between them, so the four terms the kernel adds for a row are
those of the four experts, of which at most one is not zero: the one the reference picks.
-/
module

public import proofs.«01_k».proof.Proof.Array
public import proofs.«01_k».proof.Proof.Reference

@[expose] public section

noncomputable section

namespace Cert.Moe

open Cert.KernelIdeal Cert.KernelIdeal.Gen
open Idealize.ShloMosaic Idealize.ShloMosaic.TcCoe

/-! ## Where a device's blocks stand in the whole arrays -/

/-- A device's place along the first mesh axis is 0 or 1. -/
theorem along_lt (c : Dev nD) : c.val / 4 < 2 := by revert c; decide

/-- Row `r` of device `c`, among all the rows, -/
def rowOf (c : Dev nD) (r : Fin 512) : Fin 1024 := ⟨512 * (c.val / 4) + r.val, by have := along_lt c; omega⟩

/-- and expert `e` of device `c`, among all four. -/
def expertOf (c : Dev nD) (e : Fin 2) : Fin 4 := ⟨2 * (c.val / 4) + e.val, by have := along_lt c; omega⟩

section Blocks
variable {α : Type} (c : Dev nD)

/-- An entry of a device's block of `x` or of the result, in the whole array; -/
theorem block_rows (v : (⟨2, ![1024, 512]⟩ : Shape).Idx → α) (r j : Fin 512) :
    Layout.blockN ⟨2, ![512, 512]⟩ ⟨2, ![1024, 512]⟩ (Layout.meshBlock [2, 2, 2] ![[0], []] c) v (by decide) (ix2 r j)
      = v (ix2 (rowOf c r) j) := by
  refine congrArg v (funext fun a => Fin.ext ?_)
  have := along_lt c
  fin_cases a
  · show (c.val / 4 % 2 * 1 + 0) * 512 + r.val = 512 * (c.val / 4) + r.val; omega
  · show 0 * 512 + j.val = j.val; omega

/-- of its expert numbers; -/
theorem block_ids (v : (⟨1, ![1024]⟩ : Shape).Idx → α) (r : Fin 512) :
    Layout.blockN ⟨1, ![512]⟩ ⟨1, ![1024]⟩ (Layout.meshBlock [2, 2, 2] ![[0]] c) v (by decide) (ix1 r) = v (ix1 (rowOf c r)) := by
  refine congrArg v (funext fun a => Fin.ext ?_)
  have := along_lt c
  fin_cases a
  show (c.val / 4 % 2 * 1 + 0) * 512 + r.val = 512 * (c.val / 4) + r.val; omega

/-- of its first matrices; -/
theorem block_first (v : (⟨3, ![4, 512, 1024]⟩ : Shape).Idx → α) (e : Fin 2) (k : Fin 512) (f : Fin 1024) :
    Layout.blockN ⟨3, ![2, 512, 1024]⟩ ⟨3, ![4, 512, 1024]⟩ (Layout.meshBlock [2, 2, 2] ![[0], [], []] c) v (by decide) (ix3 e k f)
      = v (ix3 (expertOf c e) k f) := by
  refine congrArg v (funext fun a => Fin.ext ?_)
  have := along_lt c
  fin_cases a
  · show (c.val / 4 % 2 * 1 + 0) * 2 + e.val = 2 * (c.val / 4) + e.val; omega
  · show 0 * 512 + k.val = k.val; omega
  · show 0 * 1024 + f.val = f.val; omega

/-- of its second matrices. -/
theorem block_second (v : (⟨3, ![4, 1024, 512]⟩ : Shape).Idx → α) (e : Fin 2) (f : Fin 1024) (j : Fin 512) :
    Layout.blockN ⟨3, ![2, 1024, 512]⟩ ⟨3, ![4, 1024, 512]⟩ (Layout.meshBlock [2, 2, 2] ![[0], [], []] c) v (by decide) (ix3 e f j)
      = v (ix3 (expertOf c e) f j) := by
  refine congrArg v (funext fun a => Fin.ext ?_)
  have := along_lt c
  fin_cases a
  · show (c.val / 4 % 2 * 1 + 0) * 2 + e.val = 2 * (c.val / 4) + e.val; omega
  · show 0 * 1024 + f.val = f.val; omega
  · show 0 * 512 + j.val = j.val; omega

end Blocks

/-! ## The four terms -/

/-- Of four terms kept by number at most one is not zero, so their sum is the one the number picks. -/
theorem pick (a : BitVec 32) (t : Fin 4 → EReal) :
    (if a = 0#32 then t 0 else 0) + (if a = 1#32 then t 1 else 0) + ((if a = 2#32 then t 2 else 0) + if a = 3#32 then t 3 else 0)
      = if a = 3#32 then t 3 else if a = 2#32 then t 2 else if a = 1#32 then t 1 else if a = 0#32 then t 0 else 0 := by
  by_cases h₃ : a = 3#32
  · subst h₃; simp
  by_cases h₂ : a = 2#32
  · subst h₂; simp
  by_cases h₁ : a = 1#32
  · subst h₁; simp
  by_cases h₀ : a = 0#32
  · subst h₀; simp
  simp [h₃, h₂, h₁, h₀]

/-- The partner is at the other place of the first mesh axis. -/
theorem along_cases (c : Dev nD) : (c.val / 4 = 0 ∧ (peer c).val / 4 = 1) ∨ (c.val / 4 = 1 ∧ (peer c).val / 4 = 0) := by
  revert c; decide

variable (m : (ℓ : Loc nD τ sig) → Buf (Elt Ideal) ℓ)
variable (x : FVec Ideal ⟨2, ![1024, 512]⟩ .bf16) (i : IVec ⟨1, ![1024]⟩ 32) (w : FVec Ideal ⟨3, ![4, 512, 1024]⟩ .bf16)
variable (u : FVec Ideal ⟨3, ![4, 1024, 512]⟩ .bf16)

/-- Every device holds its blocks of `x`, the expert numbers, and the two stacks of matrices. -/
structure Holds : Prop where
  x : ∀ c, argX m c = Layout.blockN ⟨2, ![512, 512]⟩ ⟨2, ![1024, 512]⟩ (Layout.meshBlock [2, 2, 2] ![[0], []] c) x
  i : ∀ c, argI m c = Layout.blockN ⟨1, ![512]⟩ ⟨1, ![1024]⟩ (Layout.meshBlock [2, 2, 2] ![[0]] c) i
  w : ∀ c, argW m c = Layout.blockN ⟨3, ![2, 512, 1024]⟩ ⟨3, ![4, 512, 1024]⟩ (Layout.meshBlock [2, 2, 2] ![[0], [], []] c) w
  u : ∀ c, argU m c = Layout.blockN ⟨3, ![2, 1024, 512]⟩ ⟨3, ![4, 1024, 512]⟩ (Layout.meshBlock [2, 2, 2] ![[0], [], []] c) u

variable {m x i w u}

/-- A term of the kernel's, over the whole arrays. -/
theorem term_eq (h : Holds m x i w u) (d c : Dev nD) (e : Fin 2) (r j : Fin 512) : term m d c e r j
    = if i (ix1 (rowOf c r)) = BitVec.ofNat 32 (expertOf d e).val then through x w u (expertOf d e) (rowOf c r) j else 0 := by
  unfold term through
  simp only [h.x, h.i, h.w, h.u, block_rows, block_ids, block_first, block_second]
  rfl

/-- A device's rows of the kernel's result are its rows of the reference's. -/
theorem result_eq (h : Holds m x i w u) (c : Dev nD) : result m c
    = Layout.blockN ⟨2, ![512, 512]⟩ ⟨2, ![1024, 512]⟩ (Layout.meshBlock [2, 2, 2] ![[0], []] c) (refValue x i w u) := by
  funext y
  obtain ⟨r, j, rfl⟩ : ∃ r j : Fin 512, y = ix2 r j := ⟨y 0, y 1, eq_ix2 y⟩
  rw [block_rows, refValue_at, result_at, ← pick _ fun e => through x w u e (rowOf c r) j]
  simp only [term_eq h]
  rcases along_cases c with ⟨own, other⟩ | ⟨own, other⟩
  · rw [show expertOf c 0 = 0 from Fin.ext (by simp [expertOf, own]), show expertOf c 1 = 1 from Fin.ext (by simp [expertOf, own]),
      show expertOf (peer c) 0 = 2 from Fin.ext (by simp [expertOf, other]),
      show expertOf (peer c) 1 = 3 from Fin.ext (by simp [expertOf, other])]
    rfl
  · rw [show expertOf c 0 = 2 from Fin.ext (by simp [expertOf, own]), show expertOf c 1 = 3 from Fin.ext (by simp [expertOf, own]),
      show expertOf (peer c) 0 = 0 from Fin.ext (by simp [expertOf, other]),
      show expertOf (peer c) 1 = 1 from Fin.ext (by simp [expertOf, other]), add_comm]
    rfl

end Cert.Moe

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel's bodies are those of its idealized form. -/
theorem same_bodies : Cert.Kernel.defs₀ (F := Bits) = Cert.KernelIdeal.defs₀ (F := Bits) := by
  unfold Cert.Kernel.defs₀ Cert.KernelIdeal.defs₀
  refine congrArg Defs.onTc ?_
  funext l a
  match l, a with
  | ⟨0, _⟩, (t, s) => rfl

/-- So the whole tables of bodies are the same. -/
theorem same_defs : Cert.Kernel.defs (F := Bits) = Cert.KernelIdeal.defs (F := Bits) :=
  congrArg (Pipeline.defs Cert.Kernel.pcfgs) same_bodies

/-- Every run of the kernel ends with its arguments as they were and every counter at zero: the kernel and its idealized
form are the same program, and what the one does it does over any float values. -/
theorem frame_kernel : Cert.quiescent_Kernel := fun m ρ _ => by
  rw [same_defs]
  exact (θ_run Cert.KernelIdeal.defs _ _).mono (fun _ h => ⟨fun c => (h.1 c).2, h.2⟩) (Cert.Moe.run_main (F := Bits) m ρ)

/-- So does every run of the idealized kernel. -/
theorem frame_ideal : Cert.quiescent_KernelIdeal := fun m ρ _ =>
  (θ_run Cert.KernelIdeal.defs _ _).mono (fun _ h => ⟨fun c => (h.1 c).2, h.2⟩) (Cert.Moe.run_main (F := Ideal) m ρ)

/-- So does every run of the reference, which has no counters. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.Moe.run_reference m ρ)

/-- From blocks of the reference's arguments, the kernel ends with each device holding its block of the reference's
result. -/
theorem same_value : Cert.algebraic_KernelIdeal_ReferenceIdeal := fun m ρ m' ρ' _ blocks =>
  ⟨_, (θ_run Cert.KernelIdeal.defs _ _).mono
      (fun _ h c => ⟨(h.1 c).1.trans (Cert.Moe.result_eq ⟨fun c => (blocks c).1, fun c => (blocks c).2.1,
        fun c => (blocks c).2.2.1, fun c => (blocks c).2.2.2⟩ c), (h.1 c).2⟩) (Cert.Moe.run_main (F := Ideal) m ρ),
    (θ_run Cert.ReferenceIdeal.defs _ _).mono (fun _ h => h 0) (Cert.Moe.run_reference m' ρ')⟩

theorem claim : Cert.Claim := ⟨Cert.Kernel.Gen.facts, Cert.KernelIdeal.Gen.facts, Cert.ReferenceIdeal.Gen.facts,
  frame_kernel, frame_ideal, frame_reference, trivial, same_value⟩

end Cert.Proof

end
